-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 512]⟩ ⟨2, ![512, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x1024 : Shape := ⟨2, ![512, 1024]⟩
abbrev S512x512 : Shape := ⟨2, ![512, 512]⟩
abbrev S4x128x512 : Shape := ⟨3, ![4, 128, 512]⟩
abbrev S4 : Shape := ⟨1, ![4]⟩
abbrev S_ : Shape := ⟨0, ![]⟩
abbrev S1 : Shape := ⟨1, ![1]⟩
abbrev S1x128x512 : Shape := ⟨3, ![1, 128, 512]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x512x1024, .f32⟩
  | .hbm, ⟨1, _⟩ => ⟨S512x1024, .f32⟩
  | .hbm, ⟨2, _⟩ => ⟨S512x512, .bf16⟩
  | .local _ .vmem, ⟨0, _⟩ => ⟨S512x512, .bf16⟩
  | .local _ .vmem, ⟨1, _⟩ => ⟨S4x128x512, .f32⟩
  | .local _ .vmem, ⟨2, _⟩ => ⟨S4x128x512, .f32⟩
  | .local _ .vmem, ⟨3, _⟩ => ⟨S4x128x512, .bf16⟩
  | .local _ .vmem, ⟨4, _⟩ => ⟨S4x128x512, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let c0_i32_11 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  ![0, v17.toNat]
def k0_off2 (d0 : Dev nD) : Fin 2 → Nat :=
  let c128_i32 : BitVec 32 := 128#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_12 : BitVec 32 := 512#32
  let v23 : BitVec 32 := Scalar.muli v9 c512_i32_12
  ![128, v23.toNat]
def k0_off3 (d0 : Dev nD) : Fin 2 → Nat :=
  let c256_i32 : BitVec 32 := 256#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_17 : BitVec 32 := 512#32
  let v29 : BitVec 32 := Scalar.muli v9 c512_i32_17
  ![256, v29.toNat]
def k0_off4 (d0 : Dev nD) : Fin 2 → Nat :=
  let c384_i32 : BitVec 32 := 384#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_22 : BitVec 32 := 512#32
  let v35 : BitVec 32 := Scalar.muli v9 c512_i32_22
  ![384, v35.toNat]
def k0_off5 (d0 : Dev nD) : Fin 2 → Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_26 : BitVec 32 := 512#32
  let v41 : BitVec 32 := Scalar.muli v2 c512_i32_26
  ![0, v41.toNat]
def k0_off6 (d0 : Dev nD) : Fin 2 → Nat :=
  let c128_i32_37 : BitVec 32 := 128#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_32 : BitVec 32 := 512#32
  let v47 : BitVec 32 := Scalar.muli v2 c512_i32_32
  ![128, v47.toNat]
def k0_off7 (d0 : Dev nD) : Fin 2 → Nat :=
  let c256_i32_43 : BitVec 32 := 256#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_38 : BitVec 32 := 512#32
  let v53 : BitVec 32 := Scalar.muli v2 c512_i32_38
  ![256, v53.toNat]
def k0_off8 (d0 : Dev nD) : Fin 2 → Nat :=
  let c384_i32_49 : BitVec 32 := 384#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_44 : BitVec 32 := 512#32
  let v59 : BitVec 32 := Scalar.muli v2 c512_i32_44
  ![384, v59.toNat]
def k0_dev2 (d0 : Dev nD) : Nat :=
  let c0_i32_66 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_65 : BitVec 32 := 16#32
  let v76 : BitVec 32 := Scalar.muli v9 c16_i32_65
  let v77 : BitVec 32 := Scalar.addi c0_i32_66 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v78 : BitVec 32 := Scalar.muli v5 c4_i32_67
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v80 : BitVec 32 := Scalar.muli v8 c1_i32_68
  let v81 : BitVec 32 := Scalar.addi v79 v80
  v81.toNat
def k0_dev3 (d0 : Dev nD) : Nat :=
  let c0_i32_88 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_87 : BitVec 32 := 16#32
  let v101 : BitVec 32 := Scalar.muli v9 c16_i32_87
  let v102 : BitVec 32 := Scalar.addi c0_i32_88 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v103 : BitVec 32 := Scalar.muli v5 c4_i32_89
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v105 : BitVec 32 := Scalar.muli v8 c1_i32_90
  let v106 : BitVec 32 := Scalar.addi v104 v105
  v106.toNat
def k0_dev4 (d0 : Dev nD) : Nat :=
  let c0_i32_110 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_109 : BitVec 32 := 16#32
  let v126 : BitVec 32 := Scalar.muli v9 c16_i32_109
  let v127 : BitVec 32 := Scalar.addi c0_i32_110 v126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_111 : BitVec 32 := 4#32
  let v128 : BitVec 32 := Scalar.muli v5 c4_i32_111
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v130 : BitVec 32 := Scalar.muli v8 c1_i32_112
  let v131 : BitVec 32 := Scalar.addi v129 v130
  v131.toNat
def k0_dev5 (d0 : Dev nD) : Nat :=
  let c0_i32_132 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_131 : BitVec 32 := 16#32
  let v151 : BitVec 32 := Scalar.muli v9 c16_i32_131
  let v152 : BitVec 32 := Scalar.addi c0_i32_132 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_133 : BitVec 32 := 4#32
  let v153 : BitVec 32 := Scalar.muli v5 c4_i32_133
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v155 : BitVec 32 := Scalar.muli v8 c1_i32_134
  let v156 : BitVec 32 := Scalar.addi v154 v155
  v156.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .bf16⟩
  | .hbm, ⟨2, _⟩ => ⟨S2x512x1024, .f32⟩
  | .hbm, ⟨3, _⟩ => ⟨S_, .f32⟩
  | .hbm, ⟨4, _⟩ => ⟨S512x1024, .f32⟩
  | .hbm, ⟨5, _⟩ => ⟨S512x1024, .bf16⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Proto.lean ====
/-
  The protocol of the kernel, device `c` with partner `peer c` (the device with the other coordinate on mesh axis `x`):

  cell            waited by   paid by                                   amount   what the payment hands over
  barrier c       c, once     the signal of `peer c`                    1        the four slots of `peer c`'s receive buffer, at any contents,
                                                                                 and that round 0 of `peer c`'s receive cells is reached
  pf k of c       c, once     c's local copy of chunk k of the partner's half   one f32 chunk    slot k of `peer_f32` at that chunk, the source tile back
  lf k of c       c, once     c's local copy of chunk k of its own half         one f32 chunk    slot k of `local_f32` at that chunk, the source tile back
  sd k of c       c, once     c's remote copy of chunk k                        one bf16 chunk   slot k of the send buffer back, at any contents
  rv k of c       c, once     the remote copy of chunk k by `peer c`            one bf16 chunk   slot k of c's receive buffer at the partner's
                                                                                 rows of c's half, rounded to bf16

  A device signals its partner, starts the eight local copies, waits for its barrier, then per chunk: waits pf k, rounds,
  sends; then per chunk: waits lf k and rv k and stores the rounded own chunk plus the received one; then waits sd k.
  Levels: pf, lf, sd at 0, the barrier at 1, rv at 2. A device owes its partner the barrier unit and the four receive
  amounts from the start; it waits on its barrier and on pf while owing receive amounts only.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Memref
public import Idealize.ShloMosaic.Lib.Ring
public import Idealize.ShloMosaic.Lib.Rounds
public import Idealize.ShloMosaic.Lib.Tactic

@[expose] public section

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Devices -/

set_option backward.proofsInPublic true in
/-- The device with the other coordinate on the mesh axis `x`. -/
def peer (c : Dev nD) : Dev nD := ⟨(c.val + 16) % 32, Nat.mod_lt _ (by decide)⟩
theorem peer_peer (c : Dev nD) : peer (peer c) = c := by revert c; decide
/-- The pairing as a permutation. -/
def swap : Dev nD ≃ Dev nD := ⟨peer, peer, peer_peer, peer_peer⟩

theorem peer_val (c : Dev nD) : (4 * ((c.val / 4) % 4) + (c.val % 4) + 16) - 16 * (c.val / 16) = (peer c).val := by
  revert c; decide

set_option backward.proofsInPublic true in
/-- The half of the columns that device `c` keeps: its coordinate on `x`. -/
def own (c : Dev nD) : Fin 2 := ⟨c.val / 16, Nat.div_lt_of_lt_mul c.isLt⟩
set_option backward.proofsInPublic true in
/-- The half it sends away. -/
def other (c : Dev nD) : Fin 2 := ⟨1 - c.val / 16, by omega⟩
theorem other_peer (c : Dev nD) : other (peer c) = own c := by revert c; decide

/-! ## Memrefs: the input, the five buffers of the kernel, slots and tiles -/

abbrev xM : Memref sig .tc .hbm S512x1024 .f32 := Memref.whole main_v1
abbrev oM : Memref sig .tc .vmem S512x512 .bf16 := Memref.whole cc0_stg0_0
abbrev pM : Memref sig .tc .vmem S4x128x512 .f32 := Memref.whole cc0_scratch0
abbrev lM : Memref sig .tc .vmem S4x128x512 .f32 := Memref.whole cc0_scratch1
abbrev sM : Memref sig .tc .vmem S4x128x512 .bf16 := Memref.whole cc0_scratch2
abbrev rM : Memref sig .tc .vmem S4x128x512 .bf16 := Memref.whole cc0_scratch3

theorem slot_inb (k : Fin 4) (a : Fin 3) : (![k.val, 0, 0] : Fin 3 → ℕ) a + S1x128x512.size a ≤ S4x128x512.size a := by
  revert k a; decide
theorem rows_inb (k : Fin 4) (a : Fin 2) : (![128 * k.val, 0] : Fin 2 → ℕ) a + S128x512.size a ≤ S512x512.size a := by
  revert k a; decide
theorem tile_inb (h : Fin 2) (k : Fin 4) (a : Fin 2) :
    (![128 * k.val, 512 * h.val] : Fin 2 → ℕ) a + S128x512.size a ≤ S512x1024.size a := by
  revert h k a; decide

/-- The box of slot `k` in a buffer of four chunks. -/
abbrev slotR (k : Fin 4) : Rect S4x128x512 := Rect.unit (s := S4x128x512) ![k.val, 0, 0] S1x128x512.size (slot_inb k)
/-- Slot `k` of a buffer of four chunks. -/
abbrev slot {e : EltTy} (M : Memref sig .tc .vmem S4x128x512 e) (k : Fin 4) : Memref sig .tc .vmem S128x512 e :=
  (M.slice (slotR k) (fun _ => rfl)).squeeze S128x512 squeezes_S1x128x512_S128x512
/-- The box of row chunk `k` of the result. -/
abbrev rowsR (k : Fin 4) : Rect S512x512 := Rect.unit (s := S512x512) ![128 * k.val, 0] S128x512.size (rows_inb k)
/-- Row chunk `k` of the result. -/
abbrev rows (M : Memref sig .tc .vmem S512x512 .bf16) (k : Fin 4) : Memref sig .tc .vmem S128x512 .bf16 := M.slice (rowsR k) (fun _ => rfl)
/-- The box of row chunk `k` of column half `h` of the input. -/
abbrev tileR (h : Fin 2) (k : Fin 4) : Rect S512x1024 :=
  Rect.unit (s := S512x1024) ![128 * k.val, 512 * h.val] S128x512.size (tile_inb h k)
/-- Row chunk `k` of column half `h` of the input. -/
abbrev tile (h : Fin 2) (k : Fin 4) : Memref sig .tc .hbm S128x512 .f32 := xM.slice (tileR h k) (fun _ => rfl)

/-! ## Contents

`X c` is what device `c`'s input holds. -/

section Contents
variable (X : Dev nD → (main_v1 : Ref sig .tc).ty.Contents (Elt F)) (c : Dev nD) (k : Fin 4)

/-- Chunk `k` of column half `h` of device `c`'s input. -/
def XT (h : Fin 2) : FVec F S128x512 .f32 := (tile h k).view.read (Elt F) (X c)
/-- The same rounded to bf16. -/
def RT (h : Fin 2) : FVec F S128x512 .bf16 := truncf .bf16 (XT X c k h) bitsLt_bf16_f32
/-- Chunk `k` of device `c`'s result: its own rounded chunk plus its partner's. -/
def OT : FVec F S128x512 .bf16 := addf (RT X c k (own c)) (RT X (peer c) k (own c))

end Contents

/-! ## Cells -/

/-- The four families of DMA semaphores. -/
inductive Kind where | pf | lf | sd | rv
  deriving DecidableEq

instance : Fintype Kind := ⟨{.pf, .lf, .sd, .rv}, fun x => by cases x <;> decide⟩

/-- The position of a family's first semaphore. -/
def Kind.base : Kind → ℕ
  | .pf => 1 | .lf => 5 | .sd => 9 | .rv => 13
theorem base_lt (kd : Kind) (k : Fin 4) : kd.base + k.val < sig.nDmaSem := by
  revert k; cases kd <;> decide

set_option backward.proofsInPublic true in
/-- Chunk `k`'s semaphore of family `kd`. -/
abbrev chan (kd : Kind) (k : Fin 4) : DmaSem sig := ⟨kd.base + k.val, base_lt kd k⟩
/-- The barrier semaphore. -/
abbrev barS : Sem sig := barrier0

/-- A cell of a device: its barrier (`none`), or the semaphore of a family and a chunk. -/
abbrev Key : Type := Option (Kind × Fin 4)

/-- The semaphore of a key. -/
def semOf : Key → SemLoc sig
  | none => .reg barS
  | some (kd, k) => .dma (chan kd k)

/-- The family of a position. -/
def famOf (n : ℕ) : Kind := if n < 5 then .pf else if n < 9 then .lf else if n < 13 then .sd else .rv

set_option backward.proofsInPublic true in
/-- The key of a semaphore, if it is one of the protocol's. -/
def keyOf : SemLoc sig → Option Key
  | .reg _ => some none
  | .dma s => if s.val = 0 then none else some (some (famOf s.val, ⟨(s.val - 1) % 4, Nat.mod_lt _ (by decide)⟩))

theorem keyOf_bar : keyOf (.reg barS) = some none := rfl
theorem keyOf_chan (kd : Kind) (k : Fin 4) : keyOf (.dma (chan kd k)) = some (some (kd, k)) := by
  revert k; cases kd <;> decide
theorem keyOf_semOf (x : Key) : keyOf (semOf x) = some x := by
  rcases x with _ | ⟨kd, k⟩
  · rfl
  · exact keyOf_chan kd k
theorem semOf_inj : Function.Injective semOf := fun x y h =>
  Option.some_injective _ ((keyOf_semOf x).symm.trans ((congrArg keyOf h).trans (keyOf_semOf y)))

abbrev barCell (c : Dev nD) : GSem nD τ sig := ((c : Thread nD τ), .reg barS)
abbrev chanCell (c : Dev nD) (kd : Kind) (k : Fin 4) : GSem nD τ sig := ((c : Thread nD τ), .dma (chan kd k))
abbrev cell (c : Dev nD) (x : Key) : GSem nD τ sig := ((c : Thread nD τ), semOf x)

/-- What an f32 chunk and a bf16 chunk credit a DMA semaphore with. -/
abbrev N32 : ℕ := (slot pM 0).view.dmaCredit
abbrev N16 : ℕ := (slot rM 0).view.dmaCredit
/-- What the one payment to a cell of a family amounts to. -/
def Kind.amt : Kind → ℕ
  | .pf | .lf => N32
  | .sd | .rv => N16
theorem amt_pos (kd : Kind) : 0 < kd.amt := by
  cases kd <;> exact View.dmaCredit_pos _ (by decide)

/-! ## The schedule -/

section Sched
variable (X : Dev nD → (main_v1 : Ref sig .tc).ty.Contents (Elt F))

/-- Device `c` holds a memref's elements, at contents not named. -/
abbrev some_ {s : Shape} {e : EltTy} {sp : Space} (c : Dev nD) (M : Memref sig .tc sp s e) : sProp 𝕄 :=
  iprop(∃ f, M.view.loc (c : Thread nD τ) ↦[M.view.set]{fullShare} f)
/-- Device `c` holds a source tile of its input. -/
abbrev tilePts (c : Dev nD) (h : Fin 2) (k : Fin 4) : sProp 𝕄 :=
  (tile h k).view.loc (c : Thread nD τ) ↦[(tile h k).view.set]{fullShare} X c

/-- What a device hands its partner with the barrier signal: its receive slots, and that its receive cells are at round 0. -/
def lend (c : Dev nD) : sProp 𝕄 :=
  iprop((bigSep Finset.univ fun k => some_ c (slot rM k)) ∗ bigSep Finset.univ fun k => reached ER (chanCell c .rv k) 0)

/-- What the payment to a DMA cell of device `c` hands over. -/
def pay (c : Dev nD) (kd : Kind) (k : Fin 4) : sProp 𝕄 :=
  match kd with
  | .pf => iprop(owns (c : Thread nD τ) (slot pM k) fullShare (XT X c k (other c)) ∗ tilePts X c (other c) k)
  | .lf => iprop(owns (c : Thread nD τ) (slot lM k) fullShare (XT X c k (own c)) ∗ tilePts X c (own c) k)
  | .sd => some_ c (slot sM k)
  | .rv => owns (c : Thread nD τ) (slot rM k) fullShare (RT X (peer c) k (own c))

/-- One duty in round 0 on every cell of the protocol. -/
def sched : Rounds.Schedule (GSem nD τ sig) Unit 𝕄 where
  duties g r := if r = 0 ∧ g.1.2 = .tc ∧ (keyOf g.2).isSome then {()} else ∅
  unitless _ := False
  amount g _ _ := match keyOf g.2 with | some (some (kd, _)) => kd.amt | _ => 1
  payload g _ _ := match keyOf g.2 with | some (some (kd, k)) => pay X g.1.1 kd k | some none => lend (peer g.1.1) | none => iprop(emp)
  amount_pos g _ _ _ := by split; exacts [amt_pos _, Nat.one_pos]

instance sched_storable (g : GSem nD τ sig) (r : ℕ) (d : Unit) : BI.Storable (upEmb : UEmb _ 𝕄) ((sched X).payload g r d) := by
  show BI.Storable upEmb (match keyOf g.2 with
    | some (some (kd, k)) => pay X g.1.1 kd k | some none => lend (peer g.1.1) | none => iprop(emp))
  unfold pay lend
  (repeat' split) <;> infer_instance

variable (c : Dev nD) (kd : Kind) (k : Fin 4) (x : Key) (u : Unit)

theorem duties_eq : (sched X).duties (cell c x) 0 = {()} := by
  dsimp only [sched]; exact if_pos ⟨rfl, rfl, by rw [keyOf_semOf]; rfl⟩
theorem duties_chan : (sched X).duties (chanCell c kd k) 0 = {()} := duties_eq X c (some (kd, k))
theorem duties_bar : (sched X).duties (barCell c) 0 = {()} := duties_eq X c none
theorem duties_later (g : GSem nD τ sig) : ∀ r, 1 ≤ r → (sched X).duties g r = ∅ := fun r hr => by
  dsimp only [sched]; exact if_neg fun h => by omega
theorem amount_chan : (sched X).amount (chanCell c kd k) 0 u = kd.amt := by dsimp only [sched]; rw [keyOf_chan]
theorem amount_bar : (sched X).amount (barCell c) 0 u = 1 := rfl
theorem payload_chan : (sched X).payload (chanCell c kd k) 0 u = pay X c kd k := by dsimp only [sched]; rw [keyOf_chan]
theorem payload_bar : (sched X).payload (barCell c) 0 u = lend (peer c) := rfl
theorem expect_chan : (sched X).expect (chanCell c kd k) 0 = kd.amt := by
  unfold Schedule.expect Schedule.amountOf; rw [duties_chan, Finset.sum_singleton, amount_chan]
theorem expect_bar : (sched X).expect (barCell c) 0 = 1 := by
  unfold Schedule.expect Schedule.amountOf; rw [duties_bar, Finset.sum_singleton, amount_bar]
theorem rest_chan : bigSep ((sched X).duties (chanCell c kd k) 0 \ ∅) (fun u => (sched X).payload (chanCell c kd k) 0 u) = pay X c kd k := by
  rw [Finset.sdiff_empty, duties_chan, bigSep_singleton, payload_chan]
theorem rest_bar : bigSep ((sched X).duties (barCell c) 0 \ ∅) (fun u => (sched X).payload (barCell c) 0 u) = lend (peer c) := by
  rw [Finset.sdiff_empty, duties_bar, bigSep_singleton, payload_bar]

end Sched

/-! ## Debts and levels -/

/-- The receive amounts device `c` still owes its partner, for the chunks of a list. -/
def due (c : Dev nD) : List (Fin 4) → CellTallies nD τ sig Unit
  | [] => 0
  | k :: ks => due c ks + tallyAt (chanCell (peer c) .rv k) () N16

/-- What device `c` owes at launch: the four receive amounts and the barrier unit. -/
def O₀ (c : Dev nD) : CellTallies nD τ sig Unit := due c [0, 1, 2, 3] + tallyAt (barCell (peer c)) () 1

def L (g : GSem nD τ sig) : Finset Unit := if g.1.2 = .tc then {()} else ∅
/-- Receive cells at 2, barriers at 1, every other at 0. -/
def lv (g : GSem nD τ sig) (_ : Unit) : ℕ :=
  match keyOf g.2 with | some none => 1 | some (some (.rv, _)) => 2 | _ => 0

theorem L_of_ne (g : GSem nD τ sig) (h : g.1.2 ≠ .tc) : L g = ∅ := if_neg h
theorem L_tc (c : Dev nD) (s : SemLoc sig) : L ((c : Thread nD τ), s) = {()} := if_pos rfl
theorem lv_rv (c : Dev nD) (k : Fin 4) : lv (chanCell c .rv k) () = 2 := by unfold lv; rw [keyOf_chan]
theorem lv_bar (c : Dev nD) : lv (barCell c) () = 1 := rfl
theorem lv_chan (c : Dev nD) (kd : Kind) (k : Fin 4) (h : kd ≠ .rv) : lv (chanCell c kd k) () = 0 := by
  unfold lv; rw [keyOf_chan]; cases kd <;> first | rfl | exact absurd rfl h

theorem lv_chan_lt (c : Dev nD) (kd : Kind) (k : Fin 4) (h : kd ≠ .rv) : lv ((c : Thread nD τ), .dma (chan kd k)) () < 2 := by
  have e := lv_chan c kd k h
  exact lt_of_eq_of_lt e Nat.zero_lt_two

/-- A debt of `due` is a receive cell's of the partner. -/
theorem due_pos (c : Dev nD) (ks : List (Fin 4)) (g : GSem nD τ sig) (u : Unit) (h : 0 < due c ks g u) :
    ∃ k, g = chanCell (peer c) .rv k := by
  induction ks with
  | nil => exact absurd h (Nat.lt_irrefl 0)
  | cons k ks ih =>
    simp only [due, Pi.add_apply, Finsupp.add_apply] at h
    rcases Nat.add_pos_iff_pos_or_pos.mp h with h | h
    · exact ih h
    · rw [tallyAt_apply] at h
      by_cases hg : g = chanCell (peer c) .rv k ∧ u = ()
      · exact ⟨k, hg.1⟩
      · rw [if_neg hg] at h; exact absurd h (Nat.lt_irrefl 0)

/-- A wait at a level below 2 while owing receive amounts. -/
theorem mayWait_due (c : Dev nD) (s : SemLoc sig) (hs : lv ((c : Thread nD τ), s) () < 2) (ks : List (Fin 4)) :
    (levAts L lv : sProp 𝕄) ⊢ MayWait (c : Thread nD τ) s () (due c ks) :=
  MayOwe.of_cut (L := L) (lev := lv) 1 (fun p hp => by rw [Finset.mem_singleton.mp hp, L_tc]; exact Finset.mem_singleton_self _)
    (fun g u hg => by obtain ⟨k, rfl⟩ := due_pos c ks g u hg; rw [L_tc]; exact Finset.mem_singleton_self _)
    (fun p hp => by rw [Finset.mem_singleton.mp hp]; exact Nat.le_of_lt_succ hs)
    (fun g u hg => by obtain ⟨k, rfl⟩ := due_pos c ks g u hg; rw [lv_rv]; decide)

end Cert.ScatterProof

end
-- ==== Proof.Steps.lean ====
/-
  One rule per kind of step of the kernel body, each stated once for every chunk and every family of semaphores:
  a local copy started (`fetch`), a DMA wait (`await`), a load and a store of a slot or a row chunk, the sending of a
  chunk (`stage`), the finishing of a chunk of the result (`finish`).
-/
module

public import proofs.«01_k».proof.Proof.Proto

@[expose] public section

set_option maxRecDepth 100000

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → (main_v1 : Ref sig .tc).ty.Contents (Elt F)) (K : GSem nD τ sig → ℕ)

/-- The weakest precondition of a program on device `c`. -/
abbrev wpd (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, at the name `K` gives it. -/
def invs : sProp 𝕄 := bigSep Finset.univ fun p : Dev nD × Key => cellInv ER (sched X) (K (cell p.1 p.2)) (cell p.1 p.2)
instance invs_persistent : BI.Persistent (invs X K) := by unfold invs; infer_instance

theorem invs_chan (c : Dev nD) (kd : Kind) (k : Fin 4) :
    invs X K ⊢ cellInv ER (sched X) (K (chanCell c kd k)) (chanCell c kd k) :=
  bigSep_elim (i := (c, (some (kd, k) : Key))) (Finset.mem_univ _)
theorem invs_bar (c : Dev nD) : invs X K ⊢ cellInv ER (sched X) (K (barCell c)) (barCell c) :=
  bigSep_elim (i := (c, (none : Key))) (Finset.mem_univ _)

/-! ## Credits of transfers -/

theorem credit_p (k : Fin 4) : (slot pM k).view.dmaCredit = Kind.amt .pf := rfl
theorem credit_l (k : Fin 4) : (slot lM k).view.dmaCredit = Kind.amt .lf := rfl
theorem credit_s (k : Fin 4) : (slot sM k).view.dmaCredit = Kind.amt .sd := rfl
theorem credit_r (k : Fin 4) : (slot rM k).view.dmaCredit = Kind.amt .rv := rfl

/-! ## Contents named and not named -/

theorem some_of_owns {s : Shape} {e : EltTy} {sp : Space} (c : Dev nD) (M : Memref sig .tc sp s e) (V : s.Idx → Elt F e) :
    (owns (c : Thread nD τ) M fullShare V : sProp 𝕄) ⊢ some_ c M := by
  unfold owns; iintro ⟨%f, -, H⟩; iexists f; iexact H
theorem owns_of_write {s : Shape} {e : EltTy} {sp : Space} (c : Dev nD) (M : Memref sig .tc sp s e)
    (f : M.view.ty.Contents (Elt F)) (w V : s.Idx → Elt F e) (h : w = V) :
    (M.view.loc (c : Thread nD τ) ↦[M.view.set]{fullShare} M.view.write (Elt F) f w Finset.univ : sProp 𝕄)
      ⊢ owns (c : Thread nD τ) M fullShare V := by
  unfold owns; iintro H; iexists _; isplitr [H]; swap; · iexact H
  ipureintro; rw [View.read_write_univ, h]

/-! ## Waits -/

/-- A DMA wait for a cell's one payment, owing `O`. -/
theorem await (c : Dev nD) (kd : Kind) (k : Fin 4) (O : CellTallies nD τ sig Unit) (W : Waits sig Unit)
    {sp sp' : Space} {s : Shape} {e : EltTy} {src : Memref sig .tc sp s e} {dst : Memref sig .tc sp' s e}
    {hsrc : src.view.WordExact} {hdst : dst.view.WordExact} (hN : dst.view.dmaCredit = kd.amt)
    {α : Type} {Q : α → sProp 𝕄} {k' : PUnit → Prog (TpuEff nD τ sig (Elt F) Λ₀ .tc) α} :
    iprop(invs X K ∗ cred (tallyAt (chanCell c kd k) () kd.amt) ∗ owes (c : Thread nD τ) O W
        ∗ MayWait (c : Thread nD τ) (.dma (chan kd k)) () O ∗ atPos ER (chanCell c kd k) 0 ∅ 0)
      ⊢ iprop(((owes (c : Thread nD τ) O (insert (SemLoc.dma (chan kd k), ()) W) ∗ atPos ER (chanCell c kd k) 1 ∅ 0
            ∗ pay X c kd k) -∗ wpd c (k' ⟨⟩) Q)
          -∗ wpd c (.op (.waitDma2 (chan kd k) src dst hsrc hdst) k') Q) := by
  iintro ⟨#HI, Hc, HO, HM, Hat⟩ Hk
  iapply (Rounds.wp_wait_rest_token 𝒱₀ ER (sched X) (c : Thread nD τ) none (κ := K (chanCell c kd k))
      (wpE_waitDma2_eq 𝒱₀ (c : Thread nD τ) none Set.univ) (Set.mem_univ _) () (O := O) (W := W) (R := 0) (m := 0) (T := ∅)
      (by rw [Nat.zero_add, hN, expect_chan X c kd k])) $$ [Hc HO HM Hat]
  · isplitr; · iapply (invs_chan X K c kd k); iexact HI
    isplitl [Hc]; · rw [hN]; iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq (rest_chan X c kd k)); iexact Hpay

/-! ## Local copies -/

/-- The local copy of chunk `k` of column half `h` into slot `k` of `M`, paying the cell of family `kd`. -/
theorem fetch (c : Dev nD) (kd : Kind) (k : Fin 4) (h : Fin 2) (M : Memref sig .tc .vmem S4x128x512 .f32)
    (hN : (slot M k).view.dmaCredit = kd.amt)
    (hpay : iprop(owns (c : Thread nD τ) (slot M k) fullShare (XT X c k h) ∗ tilePts X c h k) ⊢ pay X c kd k)
    {off : Fin 2 → ℕ} (hoff : off = ![128 * k.val, 512 * h.val]) {inb : ∀ a, off a + S128x512.size a ≤ S512x1024.size a}
    {hst : ∀ a, (Rect.unit (s := S512x1024) off S128x512.size inb).stride a = 1}
    {hsrc : (xM.slice (Rect.unit (s := S512x1024) off S128x512.size inb) hst).view.WordExact} {hdst : (slot M k).view.WordExact}
    {hsem : DmaTarget.Typed .hbm (.dma (chan kd k)) (DmaTarget.here (nD := nD) (p := (c : Thread nD τ).2) (slot M k))}
    {α : Type} {Q : α → sProp 𝕄} {k' : PUnit → Prog (TpuEff nD τ sig (Elt F) Λ₀ .tc) α} :
    iprop(invs X K ∗ reached ER (chanCell c kd k) 0 ∗ tilePts X c h k ∗ some_ c (slot M k) ∗ dutyTok ER (chanCell c kd k) 0 ())
      ⊢ iprop((cred (tallyAt (chanCell c kd k) () kd.amt) -∗ wpd c (k' ⟨⟩) Q)
          -∗ wpd c (.op (.enqueueDma (xM.slice (Rect.unit (s := S512x1024) off S128x512.size inb) hst) (.here (slot M k))
              (.dma (chan kd k)) hsrc hdst hsem) k') Q) := by
  subst hoff
  iintro ⟨#HI, #Hr, Hx, ⟨%fd, Hs⟩, Ht⟩ Hk
  iapply (Rounds.wp_copy_pointsTo 𝒱₀ ER (sched X) (c : Thread nD τ) none (κ := K (chanCell c kd k)) (r := 0) (d := ())
      (q := fullShare) (fs := X c) (fd := fd) (src := tile h k) (dst := slot M k) (sem := .dma (chan kd k))
      (by rw [duties_chan]; exact Finset.mem_singleton_self _) () kd.amt hN (amount_chan X c kd k ())
      (by
        rw [payload_chan]
        exact (sep_mono_left (owns_of_write c (slot M k) fd _ _ rfl)).trans hpay)) $$ [Hx Hs Ht]
  · isplitr; · iapply (invs_chan X K c kd k); iexact HI
    isplitl [Hx]; · iexact Hx
    isplitl [Hs]; · iexact Hs
    isplitl [Ht]; · iexact Ht
    iexact Hr
  iexact Hk

/-! ## Loads and stores -/

/-- A load of elements held at contents not named. -/
theorem load_any (c : Dev nD) {s : Shape} {e : EltTy} {cs : CoreSpace} {m : Memref sig .tc cs s e} {r : LoadRect s}
    {hl : m.view.LoadsAt r} {S : Finset (Idx (m.view.loc (c : Thread nD τ)))} (hS : m.view.setOn r.set ⊆ S)
    {α : Type} {Q : α → sProp 𝕄} {k' : (r.shape.Idx → Elt F e) → Prog (TpuEff nD τ sig (Elt F) Λ₀ .tc) α} :
    iprop(∃ f, m.view.loc (c : Thread nD τ) ↦[S]{fullShare} f)
      ⊢ iprop((∀ v, (∃ f, m.view.loc (c : Thread nD τ) ↦[S]{fullShare} f) -∗ wpd c (k' v) Q)
          -∗ wpd c (.op (.load m r hl) k') Q) := by
  iintro ⟨%f, H⟩ Hk
  iapply (wp_load 𝒱₀ (c : Thread nD τ) none Set.univ (q := fullShare) (f := f) hS) $$ H
  iintro H
  iapply Hk
  iexists f; iexact H

theorem slot_setOn {e : EltTy} (M : Memref sig .tc .vmem S4x128x512 e) (k : Fin 4) :
    M.view.setOn (slotR k).toLoadRect.set = (slot M k).view.set := by
  exact ((View.set_reshape _ _).trans (View.set_slice _ _)).symm
theorem rows_setOn (M : Memref sig .tc .vmem S512x512 .bf16) (k : Fin 4) :
    M.view.setOn (rowsR k).toLoadRect.set = (rows M k).view.set := by
  exact (View.set_slice _ _).symm

/-- The load of a slot held at `V`: what is read, seen as a chunk, is `V`. -/
theorem load_slot (c : Dev nD) {e : EltTy} (M : Memref sig .tc .vmem S4x128x512 e) (k : Fin 4) (V : S128x512.Idx → Elt F e)
    {hl : M.view.LoadsAt (slotR k).toLoadRect}
    {α : Type} {Q : α → sProp 𝕄} {k' : (S1x128x512.Idx → Elt F e) → Prog (TpuEff nD τ sig (Elt F) Λ₀ .tc) α} :
    (owns (c : Thread nD τ) (slot M k) fullShare V : sProp 𝕄)
      ⊢ iprop((∀ v, ⌜shapeCast S128x512 v shapeCasts_S1x128x512_S128x512 = V⌝ -∗ owns (c : Thread nD τ) (slot M k) fullShare V -∗ wpd c (k' v) Q)
          -∗ wpd c (.op (.load M (slotR k).toLoadRect hl) k') Q) := by
  unfold owns
  iintro ⟨%f, %hf, H⟩ Hk
  iapply (wp_load 𝒱₀ (c : Thread nD τ) none Set.univ (m := M) (r := (slotR k).toLoadRect) (q := fullShare) (f := f)
    (S := (slot M k).view.set) (slot_setOn M k).le) $$ H
  iintro H
  ispecialize Hk $$ %(M.view.readAt (Elt F) (slotR k).toLoadRect f)
  iapply Hk
  · ipureintro; exact hf
  iexists f; isplitr; · ipureintro; exact hf
  iexact H

/-- The store of a slot. -/
theorem store_slot (c : Dev nD) {e : EltTy} (M : Memref sig .tc .vmem S4x128x512 e) (k : Fin 4) (V : S128x512.Idx → Elt F e)
    {w : S1x128x512.Idx → Elt F e} (hw : shapeCast S128x512 w shapeCasts_S1x128x512_S128x512 = V)
    {hx : (M.access (slotR k)).Stores Finset.univ} {hm : Finset.univ = Finset.univ ∨ ∀ a, (slotR k).stride a = 1}
    {α : Type} {Q : α → sProp 𝕄} {k' : PUnit → Prog (TpuEff nD τ sig (Elt F) Λ₀ .tc) α} :
    (some_ c (slot M k) : sProp 𝕄)
      ⊢ iprop((owns (c : Thread nD τ) (slot M k) fullShare V -∗ wpd c (k' ⟨⟩) Q)
          -∗ wpd c (.op (.store M (slotR k) w Finset.univ hx hm) k') Q) := by
  iintro ⟨%f, H⟩ Hk
  iapply (wp_store 𝒱₀ (c : Thread nD τ) none Set.univ (m := M) (r := slotR k) (f := f) (S := (slot M k).view.set)
    (by rw [← slot_setOn M k, View.setOn_univ, View.set_slice]; exact subset_rfl)) $$ H
  iintro H
  iapply Hk
  unfold owns
  iexists _; isplitr [H]; swap; · iexact H
  ipureintro
  refine Eq.trans ?_ hw
  show shapeCast S128x512 ((M.access (slotR k)).read (Elt F) ((M.access (slotR k)).write (Elt F) f w Finset.univ)) _ = _
  rw [View.read_write_univ]

/-- The store of a row chunk of the result. -/
theorem store_rows (c : Dev nD) (M : Memref sig .tc .vmem S512x512 .bf16) (k : Fin 4) {w : S128x512.Idx → Elt F .bf16}
    {hx : (M.access (rowsR k)).Stores Finset.univ} {hm : Finset.univ = Finset.univ ∨ ∀ a, (rowsR k).stride a = 1}
    {α : Type} {Q : α → sProp 𝕄} {k' : PUnit → Prog (TpuEff nD τ sig (Elt F) Λ₀ .tc) α} :
    (some_ c (rows M k) : sProp 𝕄)
      ⊢ iprop((owns (c : Thread nD τ) (rows M k) fullShare w -∗ wpd c (k' ⟨⟩) Q)
          -∗ wpd c (.op (.store M (rowsR k) w Finset.univ hx hm) k') Q) := by
  iintro ⟨%f, H⟩ Hk
  iapply (wp_store 𝒱₀ (c : Thread nD τ) none Set.univ (m := M) (r := rowsR k) (f := f) (S := (rows M k).view.set)
    (by rw [← rows_setOn M k, View.setOn_univ, View.set_slice]; exact subset_rfl)) $$ H
  iintro H
  iapply Hk
  iapply (owns_of_write c (rows M k) f _ _ rfl); iexact H

/-! ## Sending a chunk -/

/-- The remote copy of chunk `k`, to `n = peer c`. -/
theorem send (c n : Dev nD) (hn : n = peer c) (k : Fin 4) (ks : List (Fin 4)) (W : Waits sig Unit)
    {hsc : (slot rM k : Memref sig (Dev.tc n : Thread nD τ).2.kind .vmem S128x512 .bf16).view.ref.isScScratch = false}
    {hsrc : (slot sM k).view.WordExact} {hdst : (slot rM k).view.WordExact}
    {hsem : DmaTarget.Typed .vmem (.dma (chan .rv k))
      (.remote (Dev.tc n : Thread nD τ) (slot rM k : Memref sig (Dev.tc n : Thread nD τ).2.kind .vmem S128x512 .bf16) (.dma (chan .sd k)) hsc)}
    {α : Type} {Q : α → sProp 𝕄} {k' : PUnit → Prog (TpuEff nD τ sig (Elt F) Λ₀ .tc) α} :
    iprop(invs X K ∗ reached ER (chanCell c .sd k) 0 ∗ reached ER (chanCell (peer c) .rv k) 0
        ∗ owns (c : Thread nD τ) (slot sM k) fullShare (RT X c k (other c)) ∗ some_ (peer c) (slot rM k)
        ∗ owes (c : Thread nD τ) (due c (k :: ks)) W
        ∗ dutyTok ER (chanCell c .sd k) 0 () ∗ dutyTok ER (chanCell (peer c) .rv k) 0 ())
      ⊢ iprop(((cred (tallyAt (chanCell c .sd k) () (Kind.amt .sd)) ∗ owes (c : Thread nD τ) (due c ks) W) -∗ wpd c (k' ⟨⟩) Q)
          -∗ wpd c (.op (.enqueueDma (slot sM k) (.remote (Dev.tc n : Thread nD τ) (slot rM k) (.dma (chan .sd k)) hsc)
              (.dma (chan .rv k)) hsrc hdst hsem) k') Q) := by
  subst hn
  unfold owns
  iintro ⟨#HI, #Hr, #Hrp, ⟨%fs, %hfs, Hs⟩, ⟨%fd, Hd⟩, HO, Ht, Htp⟩ Hk
  iapply (Rounds.wp_send_pointsTo 𝒱₀ ER (sched X) (c : Thread nD τ) none (κ₁ := K (chanCell c .sd k)) (κ₂ := K (chanCell (peer c) .rv k))
      (r₁ := 0) (r₂ := 0) (d₁ := ()) (d₂ := ()) (q := fullShare) (fs := fs) (fd := fd)
      (by rw [duties_chan]; exact Finset.mem_singleton_self _) (by rw [duties_chan]; exact Finset.mem_singleton_self _)
      () () N16 rfl (amount_chan X c .sd k ()) (amount_chan X (peer c) .rv k ()) (due c ks) rfl (W := W)
      (by rw [payload_chan]; unfold pay; iintro H; iexists fs; iexact H)
      (by
        rw [payload_chan]
        exact owns_of_write (peer c) (slot rM k) fd _ _ (by rw [hfs, peer_peer, ← other_peer, peer_peer]))) $$ [Hs Hd HO Ht Htp]
  · isplitr; · iapply (invs_chan X K c .sd k); iexact HI
    isplitr; · iapply (invs_chan X K (peer c) .rv k); iexact HI
    isplitl [Hs]; · iexact Hs
    isplitl [Hd]; · iexact Hd
    isplitl [HO]; · iexact HO
    isplitl [Ht]; · iexact Ht
    isplitr; · iexact Hr
    isplitl [Htp]; · iexact Htp
    iexact Hrp
  iexact Hk

/-! ## What stays true throughout -/

/-- The invariants, that `c`'s own DMA cells are at round 0, and the levels. -/
def ctx (c : Dev nD) : sProp 𝕄 :=
  iprop(invs X K ∗ (bigSep Finset.univ fun x : Kind × Fin 4 => reached ER (chanCell c x.1 x.2) 0) ∗ (levAts L lv : sProp 𝕄))
instance ctx_persistent (c : Dev nD) : BI.Persistent (ctx X K c) := by unfold ctx; infer_instance

theorem ctx_invs (c : Dev nD) : ctx X K c ⊢ invs X K := by unfold ctx; iintro ⟨H, -, -⟩; iexact H
theorem ctx_levs (c : Dev nD) : ctx X K c ⊢ (levAts L lv : sProp 𝕄) := by unfold ctx; iintro ⟨-, -, H⟩; iexact H
/-- A wait on a cell below the receive cells is within what is owed. -/
theorem ctx_wait (c : Dev nD) (s : SemLoc sig) (hs : lv ((c : Thread nD τ), s) () < 2) (ks : List (Fin 4)) :
    ctx X K c ⊢ MayWait (c : Thread nD τ) s () (due c ks) := (ctx_levs X K c).trans (mayWait_due c s hs ks)
theorem ctx_reached (c : Dev nD) (kd : Kind) (k : Fin 4) : ctx X K c ⊢ reached ER (chanCell c kd k) 0 := by
  unfold ctx; iintro ⟨-, H, -⟩
  iapply (show (bigSep Finset.univ fun x : Kind × Fin 4 => (reached ER (chanCell c x.1 x.2) 0 : sProp 𝕄)) ⊢ reached ER (chanCell c kd k) 0
    from bigSep_elim (i := (kd, k)) (Finset.mem_univ _)); iexact H

/-- Device `c` owes `O`, whatever waits it has recorded. -/
def owesx (c : Dev nD) (O : CellTallies nD τ sig Unit) : sProp 𝕄 := iprop(∃ W, owes (c : Thread nD τ) O W)

/-! ## What a chunk's steps take and leave -/

/-- For the copy of a chunk of the other half. -/
def needP (c : Dev nD) (k : Fin 4) : sProp 𝕄 :=
  iprop(tilePts X c (other c) k ∗ some_ c (slot pM k) ∗ dutyTok ER (chanCell c .pf k) 0 ())
/-- For the copy of a chunk of the own half. -/
def needL (c : Dev nD) (k : Fin 4) : sProp 𝕄 :=
  iprop(tilePts X c (own c) k ∗ some_ c (slot lM k) ∗ dutyTok ER (chanCell c .lf k) 0 ())
/-- For sending a chunk, besides the credit of its copy and the partner's slot. -/
def needS (c : Dev nD) (k : Fin 4) : sProp 𝕄 :=
  iprop(atPos ER (chanCell c .pf k) 0 ∅ 0 ∗ some_ c (slot sM k) ∗ dutyTok ER (chanCell c .sd k) 0 ()
    ∗ dutyTok ER (chanCell (peer c) .rv k) 0 ())
/-- After it. -/
def doneS (c : Dev nD) (k : Fin 4) : sProp 𝕄 :=
  iprop(atPos ER (chanCell c .pf k) 1 ∅ 0 ∗ some_ c (slot pM k) ∗ tilePts X c (other c) k)
/-- For finishing a chunk of the result, besides the credit of its copy. -/
def needF (c : Dev nD) (k : Fin 4) : sProp 𝕄 :=
  iprop(atPos ER (chanCell c .lf k) 0 ∅ 0 ∗ atPos ER (chanCell c .rv k) 0 ∅ 0
    ∗ cred (tallyAt (chanCell c .rv k) () (Kind.amt .rv)) ∗ some_ c (rows oM k))
/-- After it. -/
def doneF (c : Dev nD) (k : Fin 4) : sProp 𝕄 :=
  iprop(atPos ER (chanCell c .lf k) 1 ∅ 0 ∗ atPos ER (chanCell c .rv k) 1 ∅ 0 ∗ some_ c (slot lM k) ∗ some_ c (slot rM k)
    ∗ tilePts X c (own c) k ∗ owns (c : Thread nD τ) (rows oM k) fullShare (OT X c k))

/-- Wait for chunk `k` of the other half, round it into the send buffer, send it. -/
theorem stage (c n : Dev nD) (hn : n = peer c) (k : Fin 4) (ks : List (Fin 4))
    (py : Vec F S1x128x512 .f32 → FVec F S1x128x512 .bf16)
    (hpy : ∀ v, shapeCast S128x512 (py v) shapeCasts_S1x128x512_S128x512
      = truncf .bf16 (shapeCast S128x512 v shapeCasts_S1x128x512_S128x512 : FVec F S128x512 .f32) bitsLt_bf16_f32)
    {src : Memref sig .tc .hbm S128x512 .f32} {hsrc : src.view.WordExact} {hdst : (slot pM k).view.WordExact}
    {hl : (pM).view.LoadsAt (slotR k).toLoadRect} {hl' : (sM).view.LoadsAt (slotR k).toLoadRect}
    {hx : (sM.access (slotR k)).Stores Finset.univ} {hm : Finset.univ = Finset.univ ∨ ∀ a, (slotR k).stride a = 1}
    {hsc : (slot rM k : Memref sig (Dev.tc n : Thread nD τ).2.kind .vmem S128x512 .bf16).view.ref.isScScratch = false}
    {hsrc' : (slot sM k).view.WordExact} {hdst' : (slot rM k).view.WordExact}
    {hsem : DmaTarget.Typed .vmem (.dma (chan .rv k))
      (.remote (Dev.tc n : Thread nD τ) (slot rM k : Memref sig (Dev.tc n : Thread nD τ).2.kind .vmem S128x512 .bf16) (.dma (chan .sd k)) hsc)}
    {α : Type} {Q : α → sProp 𝕄} {k' : PUnit → Prog (TpuEff nD τ sig (Elt F) Λ₀ .tc) α} :
    iprop(ctx X K c ∗ reached ER (chanCell (peer c) .rv k) 0 ∗ cred (tallyAt (chanCell c .pf k) () (Kind.amt .pf)) ∗ needS c k
        ∗ some_ (peer c) (slot rM k) ∗ owesx c (due c (k :: ks)))
      ⊢ iprop(((doneS X c k ∗ cred (tallyAt (chanCell c .sd k) () (Kind.amt .sd)) ∗ owesx c (due c ks)) -∗ wpd c (k' ⟨⟩) Q)
          -∗ wpd c (.op (.waitDma2 (chan .pf k) src (slot pM k) hsrc hdst) fun _ =>
            .op (.load pM (slotR k).toLoadRect hl) fun v =>
            .op (.load sM (slotR k).toLoadRect hl') fun _ =>
            .op (.store sM (slotR k) (py v) Finset.univ hx hm) fun _ =>
            .op (.enqueueDma (slot sM k) (.remote (Dev.tc n : Thread nD τ) (slot rM k) (.dma (chan .sd k)) hsc)
              (.dma (chan .rv k)) hsrc' hdst' hsem) k') Q) := by
  unfold needS doneS owesx
  iintro ⟨#HC, #Hrp, Hc, ⟨Hat, Hs, Ht, Htp⟩, Hd, ⟨%W, HO⟩⟩ Hk
  iapply (await X K c .pf k (due c (k :: ks)) W (credit_p k)) $$ [Hc HO Hat]
  · isplitr; · iapply (ctx_invs X K c); iexact HC
    isplitl [Hc]; · iexact Hc
    isplitl [HO]; · iexact HO
    isplitr
    · iapply (ctx_wait X K c (.dma (chan .pf k)) (lv_chan_lt c .pf k (fun h => nomatch h)) (k :: ks)); iexact HC
    iexact Hat
  iintro ⟨HO, Hat, Hpay⟩
  unfold pay
  icases Hpay with ⟨Hp, Hx⟩
  iapply (load_slot c pM k (XT X c k (other c))) $$ Hp
  iintro %v %hv Hp
  iapply (load_any c (m := sM) (slot_setOn sM k).le) $$ Hs
  iintro %v' Hs
  have hw : shapeCast S128x512 (py v) shapeCasts_S1x128x512_S128x512 = RT X c k (other c) := by
    unfold RT; rw [← hv]; exact hpy v
  iapply (store_slot c sM k (RT X c k (other c)) (w := py v) hw) $$ Hs
  iintro Hs
  iapply (send X K c n hn k ks) $$ [Hs Hd HO Ht Htp]
  · isplitr; · iapply (ctx_invs X K c); iexact HC
    isplitr; · iapply (ctx_reached X K c .sd k); iexact HC
    isplitr; · iexact Hrp
    isplitl [Hs]; · iexact Hs
    isplitl [Hd]; · iexact Hd
    isplitl [HO]; · iexact HO
    isplitl [Ht]; · iexact Ht
    iexact Htp
  iintro ⟨Hcs, HO⟩
  iapply Hk
  isplitl [Hat Hp Hx]
  · isplitl [Hat]; · iexact Hat
    isplitl [Hp]; · iapply (some_of_owns c (slot pM k) _); iexact Hp
    iexact Hx
  isplitl [Hcs]; · iexact Hcs
  iexists _; iexact HO

/-- Wait for chunk `k` of the own half and for the partner's, store their sum. -/
theorem finish (c : Dev nD) (k : Fin 4)
    (py : Vec F S1x128x512 .f32 → Vec F S1x128x512 .bf16 → FVec F S128x512 .bf16)
    (hpy : ∀ v w, py v w = addf (truncf .bf16 (shapeCast S128x512 v shapeCasts_S1x128x512_S128x512 : FVec F S128x512 .f32) bitsLt_bf16_f32)
      (shapeCast S128x512 w shapeCasts_S1x128x512_S128x512 : FVec F S128x512 .bf16))
    {src : Memref sig .tc .hbm S128x512 .f32} {hsrc : src.view.WordExact} {hdst : (slot lM k).view.WordExact}
    {src' : Memref sig .tc .vmem S128x512 .bf16} {hsrc' : src'.view.WordExact} {hdst' : (slot rM k).view.WordExact}
    {hl : (lM).view.LoadsAt (slotR k).toLoadRect} {hl' : (rM).view.LoadsAt (slotR k).toLoadRect} {hl'' : (oM).view.LoadsAt (rowsR k).toLoadRect}
    {hx : (oM.access (rowsR k)).Stores Finset.univ} {hm : Finset.univ = Finset.univ ∨ ∀ a, (rowsR k).stride a = 1}
    {α : Type} {Q : α → sProp 𝕄} {k' : PUnit → Prog (TpuEff nD τ sig (Elt F) Λ₀ .tc) α} :
    iprop(ctx X K c ∗ cred (tallyAt (chanCell c .lf k) () (Kind.amt .lf)) ∗ needF c k ∗ owesx c 0)
      ⊢ iprop(((doneF X c k ∗ owesx c 0) -∗ wpd c (k' ⟨⟩) Q)
          -∗ wpd c (.op (.waitDma2 (chan .lf k) src (slot lM k) hsrc hdst) fun _ =>
            .op (.waitDma2 (chan .rv k) src' (slot rM k) hsrc' hdst') fun _ =>
            .op (.load lM (slotR k).toLoadRect hl) fun v =>
            .op (.load rM (slotR k).toLoadRect hl') fun w =>
            .op (.load oM (rowsR k).toLoadRect hl'') fun _ =>
            .op (.store oM (rowsR k) (py v w) Finset.univ hx hm) k') Q) := by
  unfold needF doneF owesx
  iintro ⟨#HC, Hcl, ⟨Hatl, Hatr, Hcr, Ho⟩, ⟨%W, HO⟩⟩ Hk
  iapply (await X K c .lf k 0 W (credit_l k)) $$ [Hcl HO Hatl]
  · isplitr; · iapply (ctx_invs X K c); iexact HC
    isplitl [Hcl]; · iexact Hcl
    isplitl [HO]; · iexact HO
    isplitr; · rw [MayWait_zero]; iempintro
    iexact Hatl
  iintro ⟨HO, Hatl, Hpl⟩
  iapply (await X K c .rv k 0 _ (credit_r k)) $$ [Hcr HO Hatr]
  · isplitr; · iapply (ctx_invs X K c); iexact HC
    isplitl [Hcr]; · iexact Hcr
    isplitl [HO]; · iexact HO
    isplitr; · rw [MayWait_zero]; iempintro
    iexact Hatr
  iintro ⟨HO, Hatr, Hr⟩
  unfold pay
  icases Hpl with ⟨Hl, Hx⟩
  iapply (load_slot c lM k (XT X c k (own c))) $$ Hl
  iintro %v %hv Hl
  iapply (load_slot c rM k (RT X (peer c) k (own c))) $$ Hr
  iintro %w %hw Hr
  iapply (load_any c (m := oM) (rows_setOn oM k).le) $$ Ho
  iintro %v' Ho
  iapply (store_rows c oM k) $$ Ho
  iintro Ho
  iapply Hk
  isplitr [HO]; swap; · iexists _; iexact HO
  isplitl [Hatl]; · iexact Hatl
  isplitl [Hatr]; · iexact Hatr
  isplitl [Hl]; · iapply (some_of_owns c (slot lM k) _); iexact Hl
  isplitl [Hr]; · iapply (some_of_owns c (slot rM k) _); iexact Hr
  isplitl [Hx]; · iexact Hx
  rw [show OT X c k = py v w by unfold OT; rw [← hw, RT, ← hv]; exact (hpy v w).symm]
  iexact Ho

/-- The wait for a chunk's send. -/
theorem flush (c : Dev nD) (k : Fin 4)
    {src : Memref sig .tc .vmem S128x512 .bf16} {hsrc : src.view.WordExact} {hdst : (slot sM k).view.WordExact}
    {α : Type} {Q : α → sProp 𝕄} {k' : PUnit → Prog (TpuEff nD τ sig (Elt F) Λ₀ .tc) α} :
    iprop(ctx X K c ∗ cred (tallyAt (chanCell c .sd k) () (Kind.amt .sd)) ∗ atPos ER (chanCell c .sd k) 0 ∅ 0 ∗ owesx c 0)
      ⊢ iprop(((atPos ER (chanCell c .sd k) 1 ∅ 0 ∗ some_ c (slot sM k) ∗ owesx c 0) -∗ wpd c (k' ⟨⟩) Q)
          -∗ wpd c (.op (.waitDma2 (chan .sd k) src (slot sM k) hsrc hdst) k') Q) := by
  unfold owesx
  iintro ⟨#HC, Hc, Hat, ⟨%W, HO⟩⟩ Hk
  iapply (await X K c .sd k 0 W (credit_s k)) $$ [Hc HO Hat]
  · isplitr; · iapply (ctx_invs X K c); iexact HC
    isplitl [Hc]; · iexact Hc
    isplitl [HO]; · iexact HO
    isplitr; · rw [MayWait_zero]; iempintro
    iexact Hat
  iintro ⟨HO, Hat, Hp⟩
  unfold pay
  iapply Hk
  isplitl [Hat]; · iexact Hat
  isplitl [Hp]; · iexact Hp
  iexists _; iexact HO

end Cert.ScatterProof

end
-- ==== Proof.Body.lean ====
/-
  The kernel body on device `c`: from the holdings of `bodyPre` to those of `bodyPost`, by the rules of Steps.lean.
-/
module

public import proofs.«01_k».proof.Proof.Steps
public import Idealize.ShloMosaic.Lib.Pipeline.Value

@[expose] public section

set_option maxRecDepth 100000

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (main_v1 : Ref sig .tc).ty.Contents (Elt F)) (K : GSem nD τ sig → ℕ)

/-- A family over the four chunks, written out. -/
theorem bigSep_chunks (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What chunk `k` needs. -/
def chunkPre (c : Dev nD) (k : Fin 4) : sProp 𝕄 :=
  iprop(needP X c k ∗ needL X c k ∗ needS c k ∗ needF c k ∗ atPos ER (chanCell c .sd k) 0 ∅ 0)
/-- What chunk `k` leaves. -/
def chunkPost (c : Dev nD) (k : Fin 4) : sProp 𝕄 :=
  iprop(doneS X c k ∗ doneF X c k ∗ atPos ER (chanCell c .sd k) 1 ∅ 0 ∗ some_ c (slot sM k))

/-- What the two devices' meeting at the barrier needs: the own cell's position and credit, the right to pay the partner's. -/
def meet (c : Dev nD) : sProp 𝕄 :=
  iprop(atPos ER (barCell c) 0 ∅ 0 ∗ cred (tallyAt (barCell c) () 1) ∗ dutyTok ER (barCell (peer c)) 0 () ∗ reached ER (barCell (peer c)) 0)

def bodyPre (c : Dev nD) : sProp 𝕄 :=
  iprop(ctx X K c ∗ meet c ∗ lend c ∗ owesx c (O₀ c) ∗ bigSep Finset.univ fun k => chunkPre X c k)
def bodyPost (c : Dev nD) : sProp 𝕄 :=
  iprop(atPos ER (barCell c) 1 ∅ 0 ∗ owesx c 0 ∗ bigSep Finset.univ fun k => chunkPost X c k)

/-- The signal to the partner. -/
theorem signal (c n : Dev nD) (hn : n = peer c) {α : Type} {Q : α → sProp 𝕄}
    {k' : PUnit → Prog (TpuEff nD τ sig (Elt F) Λ₀ .tc) α} :
    iprop(ctx X K c ∗ dutyTok ER (barCell (peer c)) 0 () ∗ reached ER (barCell (peer c)) 0 ∗ lend c ∗ owesx c (O₀ c))
      ⊢ iprop((owesx c (due c [0, 1, 2, 3]) -∗ wpd c (k' ⟨⟩) Q)
          -∗ wpd c (.op (.semSignal (n : Thread nD τ) barS (1#32).toNat) k') Q) := by
  subst hn
  unfold owesx
  iintro ⟨#HC, Ht, #Hr, Hl, ⟨%W, HO⟩⟩ Hk
  iapply (Rounds.wp_signal 𝒱₀ ER (sched X) (c : Thread nD τ) none (dst := (peer c : Thread nD τ)) (κ := K (barCell (peer c)))
      (d := ()) (by rw [duties_bar]; exact Finset.mem_singleton_self _) ((amount_bar X (peer c) ()).trans (by decide)) ()
      (due c [0, 1, 2, 3]) rfl) $$ [Ht Hl HO]
  · isplitr; · iapply ((ctx_invs X K c).trans (invs_bar X K (peer c))); iexact HC
    isplitl [HO]; · iexact HO
    isplitl [Ht]; · iexact Ht
    isplitl [Hl]
    · rw [payload_bar, peer_peer]; iexact Hl
    iexact Hr
  iintro HO
  iapply Hk
  iexists W; iexact HO

/-- The wait for the partner's signal. -/
theorem meetWait (c : Dev nD) {α : Type} {Q : α → sProp 𝕄}
    {k' : PUnit → Prog (TpuEff nD τ sig (Elt F) Λ₀ .tc) α} :
    iprop(ctx X K c ∗ atPos ER (barCell c) 0 ∅ 0 ∗ cred (tallyAt (barCell c) () 1) ∗ owesx c (due c [0, 1, 2, 3]))
      ⊢ iprop(((atPos ER (barCell c) 1 ∅ 0 ∗ lend (peer c) ∗ owesx c (due c [0, 1, 2, 3])) -∗ wpd c (k' ⟨⟩) Q)
          -∗ wpd c (.op (.semWait barS (1#32).toNat) k') Q) := by
  unfold owesx
  iintro ⟨#HC, Hat, Hc, ⟨%W, HO⟩⟩ Hk
  iapply (Rounds.wp_wait_rest_token 𝒱₀ ER (sched X) (c : Thread nD τ) none (κ := K (barCell c))
      (wpE_semWait_eq 𝒱₀ (c : Thread nD τ) none Set.univ) (Set.mem_univ _) () (O := due c [0, 1, 2, 3]) (W := W) (R := 0) (m := 0) (T := ∅)
      (by rw [expect_bar]; decide)) $$ [Hc HO Hat]
  · isplitr; · iapply ((ctx_invs X K c).trans (invs_bar X K c)); iexact HC
    isplitl [Hc]; · iexact Hc
    isplitl [HO]; · iexact HO
    isplitr; · iapply (ctx_wait X K c (.reg barS) (lt_of_eq_of_lt (lv_bar c) Nat.one_lt_two) [0, 1, 2, 3]); iexact HC
    iexact Hat
  iintro ⟨HO, Hat, -, Hp⟩
  iapply Hk
  isplitl [Hat]; · iexact Hat
  isplitl [Hp]; · iapply (Entails.of_eq (rest_bar X c)); iexact Hp
  iexists _; iexact HO

/-- The offsets of the tiles of the other half and of the own half. -/
theorem off_other (c : Dev nD) (k : Fin 4) {n : ℕ} (h : n = 128 * k.val) :
    (![n, 512 - 512 * (c.val / 16)] : Fin 2 → ℕ) = ![128 * k.val, 512 * (other c).val] := by
  rw [h, show 512 - 512 * (c.val / 16) = 512 * (other c).val by revert c; decide]
theorem off_own (c : Dev nD) (k : Fin 4) {n : ℕ} (h : n = 128 * k.val) :
    (![n, 512 * (c.val / 16)] : Fin 2 → ℕ) = ![128 * k.val, 512 * (own c).val] := by
  rw [h, show 512 * (c.val / 16) = 512 * (own c).val by revert c; decide]

/-- Rounding a chunk through its cast to two dimensions and back. -/
theorem pay_round (v : Vec F S1x128x512 .f32) :
    shapeCast S128x512 (shapeCast S1x128x512 (truncf .bf16 (shapeCast S128x512 v shapeCasts_S1x128x512_S128x512 : FVec F S128x512 .f32) bitsLt_bf16_f32)
        shapeCasts_S128x512_S1x128x512 : FVec F S1x128x512 .bf16) shapeCasts_S1x128x512_S128x512
      = truncf .bf16 (shapeCast S128x512 v shapeCasts_S1x128x512_S128x512 : FVec F S128x512 .f32) bitsLt_bf16_f32 :=
  shapeCast_shapeCast _ _ _

section Fetches
variable (c : Dev nD) (k : Fin 4) {off : Fin 2 → ℕ} {inb : ∀ a, off a + S128x512.size a ≤ S512x1024.size a}
  {hst : ∀ a, (Rect.unit (s := S512x1024) off S128x512.size inb).stride a = 1}
  {hsrc : (xM.slice (Rect.unit (s := S512x1024) off S128x512.size inb) hst).view.WordExact}

/-- The start of the copy of a chunk of the other half. -/
theorem fetchP (hoff : off = ![128 * k.val, 512 * (other c).val]) {hdst : (slot pM k).view.WordExact}
    {hsem : DmaTarget.Typed .hbm (.dma (chan .pf k)) (DmaTarget.here (nD := nD) (p := (c : Thread nD τ).2) (slot pM k))}
    {α : Type} {Q : α → sProp 𝕄} {k' : PUnit → Prog (TpuEff nD τ sig (Elt F) Λ₀ .tc) α} :
    iprop(ctx X K c ∗ needP X c k)
      ⊢ iprop((cred (tallyAt (chanCell c .pf k) () (Kind.amt .pf)) -∗ wpd c (k' ⟨⟩) Q)
          -∗ wpd c (.op (.enqueueDma (xM.slice (Rect.unit (s := S512x1024) off S128x512.size inb) hst) (.here (slot pM k))
              (.dma (chan .pf k)) hsrc hdst hsem) k') Q) := by
  unfold needP
  iintro ⟨#HC, Hx, Hs, Ht⟩
  have hp : iprop(owns (c : Thread nD τ) (slot pM k) fullShare (XT X c k (other c)) ∗ tilePts X c (other c) k) ⊢ pay X c .pf k :=
    BI.Entails.refl _
  iintro Hk
  iapply (fetch X K c .pf k (other c) pM (credit_p k) hp hoff) $$ [Hx Hs Ht] [Hk]
  swap; · iexact Hk
  isplitr; · iapply (ctx_invs X K c); iexact HC
  isplitr; · iapply (ctx_reached X K c .pf k); iexact HC
  isplitl [Hx]; · iexact Hx
  isplitl [Hs]; · iexact Hs
  iexact Ht

/-- The start of the copy of a chunk of the own half. -/
theorem fetchL (hoff : off = ![128 * k.val, 512 * (own c).val]) {hdst : (slot lM k).view.WordExact}
    {hsem : DmaTarget.Typed .hbm (.dma (chan .lf k)) (DmaTarget.here (nD := nD) (p := (c : Thread nD τ).2) (slot lM k))}
    {α : Type} {Q : α → sProp 𝕄} {k' : PUnit → Prog (TpuEff nD τ sig (Elt F) Λ₀ .tc) α} :
    iprop(ctx X K c ∗ needL X c k)
      ⊢ iprop((cred (tallyAt (chanCell c .lf k) () (Kind.amt .lf)) -∗ wpd c (k' ⟨⟩) Q)
          -∗ wpd c (.op (.enqueueDma (xM.slice (Rect.unit (s := S512x1024) off S128x512.size inb) hst) (.here (slot lM k))
              (.dma (chan .lf k)) hsrc hdst hsem) k') Q) := by
  unfold needL
  iintro ⟨#HC, Hx, Hs, Ht⟩
  have hp : iprop(owns (c : Thread nD τ) (slot lM k) fullShare (XT X c k (own c)) ∗ tilePts X c (own c) k) ⊢ pay X c .lf k :=
    BI.Entails.refl _
  iintro Hk
  iapply (fetch X K c .lf k (own c) lM (credit_l k) hp hoff) $$ [Hx Hs Ht] [Hk]
  swap; · iexact Hk
  isplitr; · iapply (ctx_invs X K c); iexact HC
  isplitr; · iapply (ctx_reached X K c .lf k); iexact HC
  isplitl [Hx]; · iexact Hx
  isplitl [Hs]; · iexact Hs
  iexact Ht

end Fetches

set_option maxHeartbeats 4000000 in
/-- The body. -/
theorem sound_body (c : Dev nD) (Kt : PUnit → sProp 𝕄) :
    iprop(bodyPre X K c ∗ (bodyPost X c -∗ iprop(|={Set.univ}=> Kt ⟨⟩)))
      ⊢ wpd c (cc0_body (Memref.whole main_v1) (Memref.isWhole_whole _) (Memref.whole cc0_stg0_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) Kt := by
  unfold bodyPre bodyPost
  rw [bigSep_chunks, bigSep_chunks]
  unfold meet chunkPre chunkPost
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel
    k0_part9_skel k0_part10_skel
  simp only [semSignalWord, semWaitWord, Prog.lift, Prog.bind_op, Prog.bind_ret, Prog.pure_eq_ret, Prog.bind_assoc, wp_deviceId]
  iintro ⟨⟨#HC, ⟨Hab, Hcb, Htb, #Hrb⟩, Hl, HO, ⟨HP0, HL0, HS0, HF0, Hd0⟩, ⟨HP1, HL1, HS1, HF1, Hd1⟩, ⟨HP2, HL2, HS2, HF2, Hd2⟩,
    ⟨HP3, HL3, HS3, HF3, Hd3⟩⟩, Hk⟩
  iapply (signal X K c _ (Fin.ext ((k0_dev1_eq c).trans (peer_val c)))) $$ [Htb Hl HO]
  · isplitr; · iexact HC
    isplitl [Htb]; · iexact Htb
    isplitr; · iexact Hrb
    isplitl [Hl]; · iexact Hl
    iexact HO
  iintro HO
  iapply (fetchP X K c 0 ((k0_off1_eq c).trans (off_other c 0 rfl))) $$ [HP0]
  · isplitr; · iexact HC
    iexact HP0
  iintro Hcp0
  iapply (fetchP X K c 1 ((k0_off2_eq c).trans (off_other c 1 rfl))) $$ [HP1]
  · isplitr; · iexact HC
    iexact HP1
  iintro Hcp1
  iapply (fetchP X K c 2 ((k0_off3_eq c).trans (off_other c 2 rfl))) $$ [HP2]
  · isplitr; · iexact HC
    iexact HP2
  iintro Hcp2
  iapply (fetchP X K c 3 ((k0_off4_eq c).trans (off_other c 3 rfl))) $$ [HP3]
  · isplitr; · iexact HC
    iexact HP3
  iintro Hcp3
  iapply (fetchL X K c 0 ((k0_off5_eq c).trans (off_own c 0 rfl))) $$ [HL0]
  · isplitr; · iexact HC
    iexact HL0
  iintro Hcl0
  iapply (fetchL X K c 1 ((k0_off6_eq c).trans (off_own c 1 rfl))) $$ [HL1]
  · isplitr; · iexact HC
    iexact HL1
  iintro Hcl1
  iapply (fetchL X K c 2 ((k0_off7_eq c).trans (off_own c 2 rfl))) $$ [HL2]
  · isplitr; · iexact HC
    iexact HL2
  iintro Hcl2
  iapply (fetchL X K c 3 ((k0_off8_eq c).trans (off_own c 3 rfl))) $$ [HL3]
  · isplitr; · iexact HC
    iexact HL3
  iintro Hcl3
  iapply (meetWait X K c) $$ [Hab Hcb HO]
  · isplitr; · iexact HC
    isplitl [Hab]; · iexact Hab
    isplitl [Hcb]; · iexact Hcb
    iexact HO
  unfold lend
  rw [bigSep_chunks, bigSep_chunks]
  iintro ⟨Hab, ⟨⟨Hr0, Hr1, Hr2, Hr3⟩, #Hrv0, #Hrv1, #Hrv2, #Hrv3⟩, HO⟩
  iapply (stage X K c _ (Fin.ext ((k0_dev2_eq c).trans (peer_val c))) 0 [1, 2, 3] k0_pay1 pay_round) $$ [Hcp0 HS0 Hr0 HO]
  · isplitr; · iexact HC
    isplitr; · iexact Hrv0
    isplitl [Hcp0]; · iexact Hcp0
    isplitl [HS0]; · iexact HS0
    isplitl [Hr0]; · iexact Hr0
    iexact HO
  iintro ⟨HS0, Hcs0, HO⟩
  iapply (stage X K c _ (Fin.ext ((k0_dev3_eq c).trans (peer_val c))) 1 [2, 3] k0_pay2 pay_round) $$ [Hcp1 HS1 Hr1 HO]
  · isplitr; · iexact HC
    isplitr; · iexact Hrv1
    isplitl [Hcp1]; · iexact Hcp1
    isplitl [HS1]; · iexact HS1
    isplitl [Hr1]; · iexact Hr1
    iexact HO
  iintro ⟨HS1, Hcs1, HO⟩
  iapply (stage X K c _ (Fin.ext ((k0_dev4_eq c).trans (peer_val c))) 2 [3] k0_pay3 pay_round) $$ [Hcp2 HS2 Hr2 HO]
  · isplitr; · iexact HC
    isplitr; · iexact Hrv2
    isplitl [Hcp2]; · iexact Hcp2
    isplitl [HS2]; · iexact HS2
    isplitl [Hr2]; · iexact Hr2
    iexact HO
  iintro ⟨HS2, Hcs2, HO⟩
  iapply (stage X K c _ (Fin.ext ((k0_dev5_eq c).trans (peer_val c))) 3 [] k0_pay4 pay_round) $$ [Hcp3 HS3 Hr3 HO]
  · isplitr; · iexact HC
    isplitr; · iexact Hrv3
    isplitl [Hcp3]; · iexact Hcp3
    isplitl [HS3]; · iexact HS3
    isplitl [Hr3]; · iexact Hr3
    iexact HO
  iintro ⟨HS3, Hcs3, HO⟩
  iapply (Cert.ScatterProof.finish X K c 0 k0_pay5 (fun _ _ => rfl)) $$ [Hcl0 HF0 HO]
  · isplitr; · iexact HC
    isplitl [Hcl0]; · iexact Hcl0
    isplitl [HF0]; · iexact HF0
    iexact HO
  iintro ⟨HF0, HO⟩
  iapply (Cert.ScatterProof.finish X K c 1 k0_pay6 (fun _ _ => rfl)) $$ [Hcl1 HF1 HO]
  · isplitr; · iexact HC
    isplitl [Hcl1]; · iexact Hcl1
    isplitl [HF1]; · iexact HF1
    iexact HO
  iintro ⟨HF1, HO⟩
  iapply (Cert.ScatterProof.finish X K c 2 k0_pay7 (fun _ _ => rfl)) $$ [Hcl2 HF2 HO]
  · isplitr; · iexact HC
    isplitl [Hcl2]; · iexact Hcl2
    isplitl [HF2]; · iexact HF2
    iexact HO
  iintro ⟨HF2, HO⟩
  iapply (Cert.ScatterProof.finish X K c 3 (fun v w => k0_pay9 (k0_pay8 v) w) (fun _ _ => rfl)) $$ [Hcl3 HF3 HO]
  · isplitr; · iexact HC
    isplitl [Hcl3]; · iexact Hcl3
    isplitl [HF3]; · iexact HF3
    iexact HO
  iintro ⟨HF3, HO⟩
  iapply (flush X K c 0) $$ [Hcs0 Hd0 HO]
  · isplitr; · iexact HC
    isplitl [Hcs0]; · iexact Hcs0
    isplitl [Hd0]; · iexact Hd0
    iexact HO
  iintro ⟨Hd0, Hb0, HO⟩
  iapply (flush X K c 1) $$ [Hcs1 Hd1 HO]
  · isplitr; · iexact HC
    isplitl [Hcs1]; · iexact Hcs1
    isplitl [Hd1]; · iexact Hd1
    iexact HO
  iintro ⟨Hd1, Hb1, HO⟩
  iapply (flush X K c 2) $$ [Hcs2 Hd2 HO]
  · isplitr; · iexact HC
    isplitl [Hcs2]; · iexact Hcs2
    isplitl [Hd2]; · iexact Hd2
    iexact HO
  iintro ⟨Hd2, Hb2, HO⟩
  iapply (flush X K c 3) $$ [Hcs3 Hd3 HO]
  · isplitr; · iexact HC
    isplitl [Hcs3]; · iexact Hcs3
    isplitl [Hd3]; · iexact Hd3
    iexact HO
  iintro ⟨Hd3, Hb3, HO⟩
  unfold wpd; rw [wp_ret]
  iapply Hk
  isplitl [Hab]; · iexact Hab
  isplitl [HO]; · iexact HO
  isplitl [HS0 HF0 Hd0 Hb0]
  · isplitl [HS0]; · iexact HS0
    isplitl [HF0]; · iexact HF0
    isplitl [Hd0]; · iexact Hd0
    iexact Hb0
  isplitl [HS1 HF1 Hd1 Hb1]
  · isplitl [HS1]; · iexact HS1
    isplitl [HF1]; · iexact HF1
    isplitl [Hd1]; · iexact Hd1
    iexact Hb1
  isplitl [HS2 HF2 Hd2 Hb2]
  · isplitl [HS2]; · iexact HS2
    isplitl [HF2]; · iexact HF2
    isplitl [Hd2]; · iexact Hd2
    iexact Hb2
  · isplitl [HS3]; · iexact HS3
    isplitl [HF3]; · iexact HF3
    isplitl [Hd3]; · iexact Hd3
    iexact Hb3

end Cert.ScatterProof

end
-- ==== Proof.Pieces.lean ====
/-
  Whole buffers and their pieces: a scratch buffer and its four slots, the input and its eight tiles, the result and its
  four row chunks.
-/
module

public import proofs.«01_k».proof.Proof.Body

@[expose] public section

set_option maxRecDepth 100000

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (main_v1 : Ref sig .tc).ty.Contents (Elt F))

/-- A piece held at some contents. -/
theorem some_intro {s : Shape} {e : EltTy} {sp : Space} (c : Dev nD) (M : Memref sig .tc sp s e) (f : Buf (Elt F) (M.view.loc (c : Thread nD τ))) :
    (M.view.loc (c : Thread nD τ) ↦[M.view.set]{fullShare} f : sProp 𝕄) ⊢ some_ c M := by
  iintro H; iexists f; iexact H

/-! ## Slots -/

/-- The elements of slot `k` in a buffer of four chunks. -/
abbrev slotSet {e : EltTy} (M : Memref sig .tc .vmem S4x128x512 e) (k : Fin 4) : Finset M.view.ty.Idx := (slot M k).view.set
/-- The elements of a tile in the input. -/
abbrev tileSet (p : Fin 2 × Fin 4) : Finset (main_v1 : Ref sig .tc).ty.Idx := (tile p.1 p.2).view.set

theorem slots_disj {e : EltTy} (M : Memref sig .tc .vmem S4x128x512 e) (k k' : Fin 4) (h : k ≠ k') :
    Disjoint (slotSet M k) (slotSet M k') := by
  have e (j : Fin 4) : slotSet M j = (slotR j).set.map M.view.emb := (View.set_reshape _ _).trans (View.set_slice _ _)
  rw [e, e, Finset.disjoint_map]
  exact Ring.lead_disjoint (s := S4x128x512) 0 1 (fun k : Fin 4 => ![k.val, 0, 0]) S1x128x512.size slot_inb
    (fun b => (Nat.one_mul b.val).symm) rfl k k' h

theorem slots_cover {e : EltTy} (M : Memref sig .tc .vmem S4x128x512 e) (hM : M.view.set = Finset.univ) :
    Finset.univ.biUnion (slotSet M) = Finset.univ := by
  have e (j : Fin 4) : slotSet M j = (slotR j).set.map M.view.emb := (View.set_reshape _ _).trans (View.set_slice _ _)
  have hc := Ring.lead_cover (s := S4x128x512) 0 1 (fun k : Fin 4 => ![k.val, 0, 0]) S1x128x512.size slot_inb
    (fun b => (Nat.one_mul b.val).symm) (fun b a ha => by revert b a; decide) rfl (fun a ha => by revert a; decide) rfl
  refine Finset.eq_univ_of_forall fun i => ?_
  have hi : i ∈ M.view.set := hM ▸ Finset.mem_univ i
  rw [View.set, Finset.mem_map] at hi
  obtain ⟨x, -, rfl⟩ := hi
  obtain ⟨k, -, hk⟩ := Finset.mem_biUnion.mp (hc.symm ▸ Finset.mem_univ x)
  exact Finset.mem_biUnion.mpr ⟨k, Finset.mem_univ _, by rw [e]; exact Finset.mem_map_of_mem _ hk⟩

/-- A buffer of four chunks is held slot by slot, -/
theorem slots_split (c : Dev nD) {e : EltTy} (M : Memref sig .tc .vmem S4x128x512 e) (hM : M.view.set = Finset.univ) :
    (iprop(∃ f, M.view.loc (c : Thread nD τ) ↦{fullShare} f) : sProp 𝕄) ⊢ bigSep Finset.univ fun k => some_ c (slot M k) := by
  iintro ⟨%f, H⟩
  ihave H := (Entails.of_eq (Ring.pointsTo_blocks (ℓ := M.view.loc (c : Thread nD τ)) (slotSet M) (slots_disj M) (slots_cover M hM) f)) $$ H
  have h : (bigSep Finset.univ fun k => (M.view.loc (c : Thread nD τ) ↦[slotSet M k]{fullShare} f : sProp 𝕄) : sProp 𝕄)
      ⊢ (bigSep Finset.univ fun k => some_ c (slot M k) : sProp 𝕄) := bigSep_mono fun k _ => some_intro c (slot M k) f
  iapply h; iexact H

/-- and its slots join to it. -/
theorem slots_join [∀ e, Nonempty (Elt F e)] (c : Dev nD) {e : EltTy} (M : Memref sig .tc .vmem S4x128x512 e) (hM : M.view.set = Finset.univ) :
    (bigSep Finset.univ fun k => some_ c (slot M k)) ⊢ (iprop(∃ f, M.view.loc (c : Thread nD τ) ↦{fullShare} f) : sProp 𝕄) :=
  Ring.pointsTo_blocks_join_exists (ℓ := M.view.loc (c : Thread nD τ)) (slotSet M) (slots_disj M) (slots_cover M hM) (fun _ => Classical.arbitrary _)

/-! ## Tiles -/

theorem tiles_disj (p p' : Fin 2 × Fin 4) (h : p ≠ p') : Disjoint (tileSet p) (tileSet p') := by
  unfold tileSet; rw [View.set_slice_whole, View.set_slice_whole, Finset.disjoint_left]
  intro i hi hi'
  have h0 := Rect.mem_set_unit.mp hi 0
  have h1 := Rect.mem_set_unit.mp hi 1
  have h0' := Rect.mem_set_unit.mp hi' 0
  have h1' := Rect.mem_set_unit.mp hi' 1
  dsimp at h0 h1 h0' h1'
  exact h (Prod.ext (Fin.ext (by omega)) (Fin.ext (by omega)))

theorem tiles_cover : Finset.univ.biUnion tileSet = Finset.univ := by
  refine Finset.eq_univ_of_forall fun i => ?_
  have h0 : (i 0).val < 512 := (i 0).isLt
  have h1 : (i 1).val < 1024 := (i 1).isLt
  refine Finset.mem_biUnion.mpr ⟨(⟨(i 1).val / 512, by omega⟩, ⟨(i 0).val / 128, by omega⟩), Finset.mem_univ _, ?_⟩
  unfold tileSet; rw [View.set_slice_whole]
  refine Rect.mem_set_unit.mpr fun a => ?_
  fin_cases a <;> dsimp <;> omega

/-- The input is held tile by tile, those of the other half and those of the own half. -/
theorem tiles (c : Dev nD) : ((c : Thread nD τ).loc main_v1 ↦{fullShare} X c : sProp 𝕄)
    = iprop((bigSep Finset.univ fun k => tilePts X c (other c) k) ∗ bigSep Finset.univ fun k => tilePts X c (own c) k) := by
  refine (Ring.pointsTo_blocks (ℓ := (c : Thread nD τ).loc main_v1) tileSet tiles_disj tiles_cover (X c)).trans ?_
  rw [bigSep_univ_prod, bigSep_univ_eq_bigSepL [other c, own c] (by revert c; decide) (by revert c; decide)]
  rfl

/-! ## The result -/

/-- Column half `h` of an input. -/
abbrev halfR (h : Fin 2) : Rect S512x1024 :=
  Rect.unit (s := S512x1024) ![0, 512 * h.val] S512x512.size (by revert h; decide)
/-- What device `c`'s input holds in column half `h`. -/
def half (c : Dev nD) (h : Fin 2) : FVec F S512x512 .f32 := fun i => X c ((halfR h).emb i)
/-- What device `c`'s result holds: its own half rounded to bf16 plus its partner's rows of it, rounded. -/
def outOf (c : Dev nD) : FVec F S512x512 .bf16 :=
  addf (truncf .bf16 (half X c (own c)) bitsLt_bf16_f32) (truncf .bf16 (half X (peer c) (own c)) bitsLt_bf16_f32)

theorem rows_half (h : Fin 2) (k : Fin 4) (j : S128x512.Idx) : (halfR h).emb ((rowsR k).emb j) = (tileR h k).emb j := by
  refine funext fun a => Fin.ext ?_
  fin_cases a
  · show 0 + 1 * (128 * k.val + 1 * (j 0).val) = 128 * k.val + 1 * (j 0).val; omega
  · show 512 * h.val + 1 * (0 + 1 * (j 1).val) = 512 * h.val + 1 * (j 1).val; omega

theorem outOf_rows (c : Dev nD) (k : Fin 4) : (fun j => outOf X c ((rowsR k).emb j)) = OT X c k := by
  refine funext fun j => ?_
  show FloatOps.addf (FloatOps.truncf .bf16 bitsLt_bf16_f32 (X c ((halfR (own c)).emb ((rowsR k).emb j))))
    (FloatOps.truncf .bf16 bitsLt_bf16_f32 (X (peer c) ((halfR (own c)).emb ((rowsR k).emb j)))) = _
  rw [rows_half]
  rfl

theorem rows_disj (k k' : Fin 4) (h : k ≠ k') : Disjoint (rowsR k).set (rowsR k').set :=
  Ring.lead_disjoint (s := S512x512) 0 128 (fun k : Fin 4 => ![128 * k.val, 0]) S128x512.size rows_inb (fun _ => rfl) rfl k k' h
theorem rows_cover : Finset.univ.biUnion (fun k => (rowsR k).set) = Finset.univ :=
  Ring.lead_cover (s := S512x512) 0 128 (fun k : Fin 4 => ![128 * k.val, 0]) S128x512.size rows_inb (fun _ => rfl)
    (fun b a ha => by revert b a; decide) rfl (fun a ha => by revert a; decide) rfl

/-- The staging buffer of the result is held row chunk by row chunk, -/
theorem rows_split (c : Dev nD) (M : Memref sig .tc .vmem S512x512 .bf16) (hM : M.view.set = Finset.univ) :
    (iprop(∃ f, M.view.loc (c : Thread nD τ) ↦{fullShare} f) : sProp 𝕄) ⊢ bigSep Finset.univ fun k => some_ c (rows M k) := by
  iintro ⟨%f, H⟩
  have h := pointsTo_rects (Name := ℕ) (U := UU) (Ix := Unit) (Lvl := ℕ) (c : Thread nD τ) M fullShare rowsR (fun _ _ => rfl) rows_disj rows_cover f
  rw [hM] at h
  ihave H := (Entails.of_eq h) $$ H
  have h' : (bigSep Finset.univ fun k => (owns (c : Thread nD τ) (M.slice (rowsR k) fun _ => rfl) fullShare
        (fun j => M.view.read (Elt F) f ((rowsR k).emb j)) : sProp 𝕄) : sProp 𝕄)
      ⊢ (bigSep Finset.univ fun k => some_ c (rows M k) : sProp 𝕄) := bigSep_mono fun k _ => some_of_owns c (rows M k) _
  iapply h'; iexact H

/-- and its finished row chunks make up the result. -/
theorem rows_join [∀ e, Nonempty (Elt F e)] (c : Dev nD) (M : Memref sig .tc .vmem S512x512 .bf16) :
    (bigSep Finset.univ fun k => (owns (c : Thread nD τ) (rows M k) fullShare (OT X c k) : sProp 𝕄))
      ⊢ owns (c : Thread nD τ) M fullShare (outOf X c) := by
  have h := owns_of_rects (Val := Elt F) (Name := ℕ) (U := UU) (Ix := Unit) (Lvl := ℕ) (c : Thread nD τ) M fullShare rowsR (fun _ _ => rfl) rows_disj rows_cover (outOf X c)
  simp only [outOf_rows] at h
  exact h

end Cert.ScatterProof

end
-- ==== Proof.Region.lean ====
/-
  The kernel's region: its cells opened on entry and closed on exit, its body run by Body.lean, the result left in the
  output array.
-/
module

public import proofs.«01_k».proof.Proof.Pieces
public import proofs.«01_k».proof.Proof.Gen.KernelIdeal.Frame
public import Idealize.ShloMosaic.Lib.Pipeline.RegionTalk
public import Idealize.ShloMosaic.Lib.Pipeline.ValueKit.Geometry

@[expose] public section

set_option maxRecDepth 100000

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The cells' ghost state -/

section Ghost
variable (X : Dev nD → (main_v1 : Ref sig .tc).ty.Contents (Elt F)) (K : GSem nD τ sig → ℕ)

/-- A family over the DMA cells of a device, one kind at a time. -/
theorem bigSep_kinds (Φ : Kind × Fin 4 → sProp 𝕄) : bigSep Finset.univ Φ
    = iprop((bigSep Finset.univ fun k => Φ (.pf, k)) ∗ (bigSep Finset.univ fun k => Φ (.lf, k))
      ∗ (bigSep Finset.univ fun k => Φ (.sd, k)) ∗ bigSep Finset.univ fun k => Φ (.rv, k)) := by
  rw [bigSep_univ_prod, bigSep_univ_eq_bigSepL [Kind.pf, Kind.lf, Kind.sd, Kind.rv] (by decide) (by decide)]
  rfl

/-- The device whose cell of a kind device `c` pays. -/
def payee (c : Dev nD) : Kind → Dev nD
  | .rv => peer c
  | .pf | .lf | .sd => c

/-- The right to pay for chunk `k` at a cell of a kind. -/
def payTok (c : Dev nD) (x : Kind × Fin 4) : sProp 𝕄 := dutyTok ER (chanCell (payee c x.1) x.1 x.2) 0 ()

/-- What device `c` carries from the launch to the region. -/
def ghost (c : Dev nD) : sProp 𝕄 :=
  iprop(invs X K ∗ reached ER (barCell (peer c)) 0 ∗ atPos ER (barCell c) 0 ∅ 0
    ∗ (bigSep Finset.univ fun x : Kind × Fin 4 => openTok ER (chanCell c x.1 x.2))
    ∗ dutyTok ER (barCell (peer c)) 0 () ∗ bigSep Finset.univ fun x => payTok c x)

/-- The same once the DMA cells are open. -/
def opened (c : Dev nD) : sProp 𝕄 :=
  iprop(ctx X K c ∗ reached ER (barCell (peer c)) 0 ∗ atPos ER (barCell c) 0 ∅ 0
    ∗ (bigSep Finset.univ fun x : Kind × Fin 4 => atPos ER (chanCell c x.1 x.2) 0 ∅ 0)
    ∗ dutyTok ER (barCell (peer c)) 0 () ∗ bigSep Finset.univ fun x => payTok c x)

/-- The credit for the units other devices pay to device `c`. -/
def credits (c : Dev nD) : sProp 𝕄 :=
  iprop(cred (tallyAt (barCell c) () 1) ∗ bigSep Finset.univ fun k => cred (tallyAt (chanCell c .rv k) () (Kind.amt .rv)))

/-- The kernel's own semaphores. -/
abbrev osem (x : Kind × Fin 4) : SemLoc sig := .dma (chan x.1 x.2)

theorem open_cell (c : Dev nD) (x : Kind × Fin 4) :
    iprop(invs X K ∗ (openTok ER (chanCell c x.1 x.2) ∗ semVal (chanCell c x.1 x.2) 0))
      ⊢ (|={Set.univ}=> iprop(atPos ER (chanCell c x.1 x.2) 0 ∅ 0 ∗ reached ER (chanCell c x.1 x.2) 0) : sProp 𝕄) := by
  iintro ⟨#HI, Ho, Hs⟩
  iapply (Rounds.cell_open ER (sched X) (g := chanCell c x.1 x.2) (Set.mem_univ (K (chanCell c x.1 x.2))))
  isplitr; · iapply (invs_chan X K c x.1 x.2); iexact HI
  isplitl [Ho] <;> iassumption

theorem close_cell (g : GSem nD τ sig) (κ : ℕ) :
    iprop(cellInv ER (sched X) κ g ∗ atPos ER g 1 ∅ 0) ⊢ (|={Set.univ}=> semVal g 0 : sProp 𝕄) :=
  Rounds.cell_close ER (sched X) (Set.mem_univ κ) id (duties_later X g)

theorem close_chan (c : Dev nD) (x : Kind × Fin 4) :
    iprop(invs X K ∗ atPos ER (chanCell c x.1 x.2) 1 ∅ 0) ⊢ (|={Set.univ}=> semVal (chanCell c x.1 x.2) 0 : sProp 𝕄) := by
  iintro ⟨#HI, Ha⟩
  iapply (close_cell X (chanCell c x.1 x.2) (K (chanCell c x.1 x.2)))
  isplitr; · iapply (invs_chan X K c x.1 x.2); iexact HI
  iexact Ha

/-- A family of updates that share a persistent record, at once. -/
theorem update_all {I : Type} [Fintype I] [DecidableEq I] {R : sProp 𝕄} [BI.Persistent R] {Φ Ψ : I → sProp 𝕄}
    (h : ∀ i, iprop(R ∗ Φ i) ⊢ (|={Set.univ}=> Ψ i : sProp 𝕄)) :
    iprop(R ∗ bigSep Finset.univ Φ) ⊢ (|={Set.univ}=> bigSep Finset.univ Ψ : sProp 𝕄) :=
  (bigSep_with_persistent (R := R) (Ψ := fun i => iprop(|={Set.univ}=> Ψ i)) fun i _ => h i).trans (bigSep_fupd _ _)

/-- Entry: every DMA cell of the device is opened. -/
theorem open_all (c : Dev nD) :
    iprop(ghost X K c ∗ Pipeline.ownSems0 osem c ∗ levAts L lv) ⊢ (|={Set.univ}=> opened X K c : sProp 𝕄) := by
  unfold ghost opened ctx
  iintro ⟨⟨#HI, #Hr, Ha, Ho, Ht, Hts⟩, Hs, #Hl⟩
  ihave Hs := (show Pipeline.ownSems0 osem c ⊢ (bigSep Finset.univ fun x : Kind × Fin 4 => semVal (chanCell c x.1 x.2) 0 : sProp 𝕄) from .rfl) $$ Hs
  ihave H := (Entails.of_eq (bigSep_sep' Finset.univ (fun x : Kind × Fin 4 => (openTok ER (chanCell c x.1 x.2) : sProp 𝕄))
    (fun x : Kind × Fin 4 => (semVal (chanCell c x.1 x.2) 0 : sProp 𝕄))).symm) $$ [Ho Hs]
  · isplitl [Ho] <;> iassumption
  imod (update_all (R := invs X K) (open_cell X K c)) $$ [H] with H
  · isplitr; · iexact HI
    iexact H
  ihave H := (Entails.of_eq (bigSep_sep' Finset.univ (fun x : Kind × Fin 4 => (atPos ER (chanCell c x.1 x.2) 0 ∅ 0 : sProp 𝕄))
    (fun x : Kind × Fin 4 => (reached ER (chanCell c x.1 x.2) 0 : sProp 𝕄)))) $$ H
  icases H with ⟨Hat, #Hrs⟩
  imodintro
  isplitr
  · isplitr; · iexact HI
    isplitr; · iexact Hrs
    iexact Hl
  isplitr; · iexact Hr
  isplitl [Ha]; · iexact Ha
  isplitl [Hat]; · iexact Hat
  isplitl [Ht] <;> iassumption

/-! ## The body between whole buffers -/

/-- The scratch buffers at some contents. -/
def scratch (c : Dev nD) : sProp 𝕄 :=
  iprop((∃ f, (pM).view.loc (c : Thread nD τ) ↦{fullShare} f) ∗ (∃ f, (lM).view.loc (c : Thread nD τ) ↦{fullShare} f)
    ∗ (∃ f, (sM).view.loc (c : Thread nD τ) ↦{fullShare} f) ∗ (∃ f, (rM).view.loc (c : Thread nD τ) ↦{fullShare} f))

abbrev inPts (c : Dev nD) : sProp 𝕄 := (c : Thread nD τ).loc main_v1 ↦{fullShare} X c

def runPre (c : Dev nD) : sProp 𝕄 :=
  iprop(opened X K c ∗ credits c ∗ scratch c ∗ inPts X c ∗ (∃ f, (oM).view.loc (c : Thread nD τ) ↦{fullShare} f) ∗ owesx c (O₀ c))
def runPost (c : Dev nD) : sProp 𝕄 :=
  iprop(semVal (barCell c) 0 ∗ (bigSep Finset.univ fun x : Kind × Fin 4 => semVal (chanCell c x.1 x.2) 0) ∗ scratch c ∗ inPts X c
    ∗ owns (c : Thread nD τ) oM fullShare (outOf X c) ∗ owesx c 0)

theorem pre_intro (c : Dev nD) : runPre X K c ⊢ bodyPre X K c := by
  unfold runPre bodyPre opened credits scratch meet lend inPts
  simp only [chunkPre, needP, needL, needS, needF, bigSep_sep']
  rw [bigSep_kinds, bigSep_kinds, tiles]
  iintro ⟨⟨#HC, #Hr, Ha, ⟨HaP, HaL, HaS, HaR⟩, Ht, ⟨HtP, HtL, HtS, HtR⟩⟩, ⟨Hc, HcR⟩, ⟨HP, HL, HS, HR⟩, ⟨HxO, HxW⟩, HO, HW⟩
  ihave HP := (slots_split c pM (View.set_whole _)) $$ HP
  ihave HL := (slots_split c lM (View.set_whole _)) $$ HL
  ihave HS := (slots_split c sM (View.set_whole _)) $$ HS
  ihave HR := (slots_split c rM (View.set_whole _)) $$ HR
  ihave HO := (rows_split c oM (View.set_whole _)) $$ HO
  isplitr; · iexact HC
  isplitl [Ha Hc Ht]
  · isplitl [Ha]; · iexact Ha
    isplitl [Hc]; · iexact Hc
    isplitl [Ht]; · iexact Ht
    iexact Hr
  isplitl [HR]
  · isplitl [HR]; · iexact HR
    unfold ctx
    icases HC with ⟨-, #Hrs, -⟩
    ihave Hrs' := (Entails.of_eq (bigSep_kinds (fun x : Kind × Fin 4 => (reached ER (chanCell c x.1 x.2) 0 : sProp 𝕄)))) $$ Hrs
    icases Hrs' with ⟨-, -, -, H⟩; iexact H
  isplitl [HW]; · iexact HW
  isplitl [HxO HP HtP]
  · isplitl [HxO]; · iexact HxO
    isplitl [HP]; · iexact HP
    iexact HtP
  isplitl [HxW HL HtL]
  · isplitl [HxW]; · iexact HxW
    isplitl [HL]; · iexact HL
    iexact HtL
  isplitl [HaP HS HtS HtR]
  · isplitl [HaP]; · iexact HaP
    isplitl [HS]; · iexact HS
    isplitl [HtS]; · iexact HtS
    iexact HtR
  isplitl [HaL HaR HcR HO]
  · isplitl [HaL]; · iexact HaL
    isplitl [HaR]; · iexact HaR
    isplitl [HcR] <;> iassumption
  iexact HaS

theorem post_elim [∀ e, Nonempty (Elt F e)] (c : Dev nD) : iprop(invs X K ∗ bodyPost X c) ⊢ (|={Set.univ}=> runPost X c : sProp 𝕄) := by
  unfold runPost bodyPost scratch inPts
  simp only [chunkPost, doneS, doneF, bigSep_sep']
  rw [tiles]
  iintro ⟨#HI, Ha, HW, ⟨HaP, HP, HxO⟩, ⟨HaL, HaR, HL, HR, HxW, HO⟩, HaS, HS⟩
  imod (close_cell X (barCell c) (K (barCell c))) $$ [Ha] with Hb
  · isplitr; · iapply (invs_bar X K c); iexact HI
    iexact Ha
  imod (update_all (R := invs X K) (close_chan X K c)) $$ [HaP HaL HaS HaR] with Hs
  · isplitr; · iexact HI
    rw [bigSep_kinds]
    isplitl [HaP]; · iexact HaP
    isplitl [HaL]; · iexact HaL
    isplitl [HaS] <;> iassumption
  imodintro
  isplitl [Hb]; · iexact Hb
  isplitl [Hs]; · iexact Hs
  isplitl [HP HL HS HR]
  · isplitl [HP]; · iapply (slots_join c pM (View.set_whole _)); iexact HP
    isplitl [HL]; · iapply (slots_join c lM (View.set_whole _)); iexact HL
    isplitl [HS]; · iapply (slots_join c sM (View.set_whole _)); iexact HS
    iapply (slots_join c rM (View.set_whole _)); iexact HR
  isplitl [HxO HxW]; · isplitl [HxO] <;> iassumption
  isplitl [HO]; · iapply (rows_join X c oM); iexact HO
  iexact HW

end Ghost

end Cert.ScatterProof

end
-- ==== Proof.Segments.lean ====
/-
  @main as two segments: the reshape of the argument, and the kernel's region with its proof data.
-/
module

public import proofs.«01_k».proof.Proof.Region

@[expose] public section

set_option maxRecDepth 100000

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- A device's buffers at launch, -/
abbrev V₀ (c : Dev nD) : Valuation τ sig (Elt F) := fun b => m (c, b)
/-- after the reshape, -/
abbrev V₁ (c : Dev nD) : Valuation τ sig (Elt F) := StableHlo.after hostOps0 (V₀ m c)
/-- what the kernel reads, -/
abbrev inOf (c : Dev nD) : (main_v1 : Ref sig .tc).ty.Contents (Elt F) := V₁ m c main_v1
/-- and after the kernel. -/
abbrev V₂ (c : Dev nD) : Valuation τ sig (Elt F) := Function.update (V₁ m c) (Proc.devRef .tc main_v2) (outOf (inOf m) c)

theorem V₂_out (c : Dev nD) : V₂ m c main_v2 = outOf (inOf m) c := Function.update_self ..
theorem V₂_in (c : Dev nD) : V₂ m c main_v1 = V₁ m c main_v1 := Function.update_of_ne (by decide) ..
theorem V₂_arg (c : Dev nD) : V₂ m c main_arg0 = V₁ m c main_arg0 := Function.update_of_ne (by decide) ..

/-! ## Buffers -/

/-- The buffers the thread state holds between segments, -/
def bufs : Finset (DevRef τ sig) := (StableHlo.tcRefs τ sig).filter fun b => ¬ b.isScoped
/-- and those of them the region does not stage. -/
def rest : Finset (DevRef τ sig) := {Proc.devRef .tc main_arg0, Proc.devRef .tc main_v1}

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

abbrev pt (c : Dev nD) (b : Ref sig .tc) (f : Buf (Elt F) ((c : Thread nD τ).loc b)) : sProp 𝕄 := (c : Thread nD τ).loc b ↦{fullShare} f

theorem rest_eq (c : Dev nD) (W : Valuation τ sig (Elt F)) :
    (StableHlo.held (c : Thread nD τ) rest W : sProp 𝕄) = iprop(pt c main_arg0 (W main_arg0) ∗ pt c main_v1 (W main_v1)) := by
  unfold StableHlo.held
  rw [bigSep_eq_bigSepL_of_eq [Proc.devRef .tc main_arg0, Proc.devRef .tc main_v1] (by decide) (by decide)]
  rfl

theorem arr_eq (c : Dev nD) (W : Valuation τ sig (Elt F)) :
    (StableHlo.held (c.tc : Thread nD τ) (Pipeline.arrRefs (τ := τ) spec0) W : sProp 𝕄) = pt c main_v2 (W main_v2) := by
  unfold StableHlo.held
  rw [bigSep_eq_bigSepL_of_eq [Proc.devRef .tc main_v2] (by decide) (by decide)]
  rfl

theorem bufs_eq (c : Dev nD) (W : Valuation τ sig (Elt F)) : (StableHlo.held (c : Thread nD τ) bufs W : sProp 𝕄)
    = iprop(pt c main_arg0 (W main_arg0) ∗ pt c main_v1 (W main_v1) ∗ pt c main_v2 (W main_v2)) := by
  unfold StableHlo.held
  rw [bigSep_eq_bigSepL_of_eq [Proc.devRef .tc main_arg0, Proc.devRef .tc main_v1, Proc.devRef .tc main_v2] (by decide) (by decide)]
  rfl

/-! ## The proof data -/

/-- What the region's body starts from, besides its staging buffer and what it owes, -/
def Φ₀ (c : Dev nD) : sProp 𝕄 :=
  iprop(((∃ K, opened (inOf m) K c) ∗ credits c) ∗ scratch c ∗ (pt c main_arg0 (V₁ m c main_arg0) ∗ pt c main_v1 (V₁ m c main_v1)) ∗ ∃ r, prngReg c r)
/-- and what it leaves. -/
def Φ₁ (c : Dev nD) : sProp 𝕄 :=
  iprop((semVal (barCell c) 0 ∗ bigSep Finset.univ fun x : Kind × Fin 4 => semVal (chanCell c x.1 x.2) 0) ∗ scratch c
    ∗ (pt c main_arg0 (V₁ m c main_arg0) ∗ pt c main_v1 (V₁ m c main_v1)) ∗ ∃ r, prngReg c r)

def dat (c : Dev nD) : Pipeline.Dat τ (Elt F) Unit ℕ UU ℕ cfg0 c where
  A := fun | 0 => V₁ m c main_v2
  after := fun | 0 => fun _ => outOf (inOf m) c
  Φ t := if t.val = 0 then Φ₀ m c else Φ₁ m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun _ c => dat m c

theorem owed_zero (c : Dev nD) : (pdats m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

/-- What is owed at a point, with the waits recorded. -/
theorem owesAt_intro (c : Dev nD) (t : Fin (cfg0.N + 1)) (O : CellTallies nD τ sig Unit) (h : (dat m c).owed t = O) :
    (owesx c O : sProp 𝕄) ⊢ ((dat m c).owesAt () t : sProp 𝕄) := by
  unfold owesx Dat.owesAt Pipeline.owesWithin Dat.bound; rw [h, show (dat m c).recorded t = Set.univ from rfl]
  iintro ⟨%W, HO⟩; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ (owesx c O : sProp 𝕄) := by
  unfold owesx Dat.owesAt Pipeline.owesWithin; rw [h]
  iintro ⟨%W, -, HO⟩; iexists W; iexact HO

theorem some_whole (c : Dev nD) : (some_ c oM : sProp 𝕄) ⊢ iprop(∃ f, (oM).view.loc (c : Thread nD τ) ↦{fullShare} f) := by
  unfold some_; rw [show (oM).view.set = Finset.univ from View.set_whole _]

/-- The region's body obligation. -/
theorem body [∀ e, Nonempty (Elt F e)] (c : Dev nD) : BodyObligation (dat m c) defs₀ 𝒱₀ () Set.univ := fun t => by
  obtain rfl := fin_N0 t
  rw [bigSep_W0, bigSep_W0]
  rw [show (dat m c).Φ t0_0.castSucc = Φ₀ m c from rfl, show (dat m c).Φ t0_0.succ = Φ₁ m c from rfl]
  unfold Φ₀ Φ₁
  iintro ⟨⟨⟨⟨%K, Hg⟩, Hc⟩, Hs, ⟨Ha, Hx⟩, Hp⟩, HO, ⟨%d, Ho⟩⟩
  ihave HO := (owesAt_elim m c _ (O₀ c) (owed_first m c)) $$ HO
  ihave Ho := ((some_of_owns c oM _).trans (some_whole c)) $$ Ho
  ihave #HI := (show opened (inOf m) K c ⊢ invs (inOf m) K from by
    unfold opened; iintro ⟨H, -⟩; iapply (ctx_invs (inOf m) K c); iexact H) $$ Hg
  iapply (sound_body (inOf m) K c _)
  isplitl [Hg Hc Hs Hx HO Ho]
  · iapply (pre_intro (inOf m) K c)
    unfold runPre
    isplitl [Hg]; · iexact Hg
    isplitl [Hc]; · iexact Hc
    isplitl [Hs]; · iexact Hs
    isplitl [Hx]; · iexact Hx
    isplitl [Ho] <;> iassumption
  iintro Hpost
  imod (post_elim (inOf m) K c) $$ [Hpost] with Hpost
  · isplitr; · iexact HI
    iexact Hpost
  imodintro
  unfold runPost
  icases Hpost with ⟨Hb, Hss, Hs, Hx, Ho, HO⟩
  isplitl [Hb Hss Hs Hx Ha Hp]
  · isplitl [Hb Hss]; · isplitl [Hb] <;> iassumption
    isplitl [Hs]; · iexact Hs
    isplitl [Ha Hx]
    · isplitl [Ha]; · iexact Ha
      iexact Hx
    iexact Hp
  isplitl [HO]; · iapply (owesAt_intro m c _ 0 (owed_last m c)); iexact HO
  iexact Ho

/-! ## The segments -/

/-- What the region takes of a device's ghost state. -/
def Tk (c : Dev nD) : sProp 𝕄 := iprop((∃ K, ghost (inOf m) K c) ∗ credits c)
def Xk (c : Dev nD) : sProp 𝕄 := iprop((∃ K, opened (inOf m) K c) ∗ credits c)
def Yk (c : Dev nD) : sProp 𝕄 := semVal (barCell c) 0
/-- What rides beside the buffers up to the region. -/
def R (c : Dev nD) : sProp 𝕄 := iprop(Tk m c ∗ (∃ r, prngReg c r) ∗ owesx c (O₀ c))

theorem hopen (c : Dev nD) : iprop(Tk m c ∗ Pipeline.ownSems0 osem c ∗ levAts L lv) ⊢ (|={Set.univ}=> Xk m c : sProp 𝕄) := by
  unfold Tk Xk
  iintro ⟨⟨⟨%K, Hg⟩, Hc⟩, Hs, Hl⟩
  imod (open_all (inOf m) K c) $$ [Hg Hs Hl] with H
  · isplitl [Hg]; · iexact Hg
    isplitl [Hs] <;> iassumption
  imodintro
  isplitl [H]; · iexists K; iexact H
  iexact Hc

theorem scratch_eq (c : Dev nD) : (Pipeline.scopedRest (Ix := Unit) (Name := ℕ) (U := UU) (Lvl := ℕ) (Val := Elt F) spec0 c : sProp 𝕄) = scratch c :=
  scopedRest0_eq c

theorem hin (c : Dev nD) : iprop(Pipeline.scopedRest (Pipeline.pin (pcfgs (F := F)) adm 0).spec c ∗ (∃ r, prngReg c r)
      ∗ StableHlo.held (c.tc : Thread nD τ) rest (V₁ m c) ∗ Xk m c) ⊢ (pdats m 0 c).Φ 0 := by
  rw [show (pdats m 0 c).Φ 0 = Φ₀ m c from rfl, show (Pipeline.pin (pcfgs (F := F)) adm 0).spec = spec0 from rfl, scratch_eq, rest_eq]
  unfold Φ₀ Xk
  iintro ⟨Hs, Hp, Hb, HX⟩
  isplitl [HX]; · iexact HX
  isplitl [Hs]; · iexact Hs
  isplitl [Hb] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) rest (V₂ m c) ∗ Pipeline.ownSems0 osem c ∗ Yk c) := by
  rw [show (pdats m 0 c).Φ (Fin.last _) = Φ₁ m c from rfl, show (Pipeline.pin (pcfgs (F := F)) adm 0).spec = spec0 from rfl, scratch_eq, rest_eq,
    V₂_in, V₂_arg]
  unfold Φ₁ Yk
  iintro ⟨⟨Hb, Hss⟩, Hs, Hbufs, Hp⟩
  isplitl [Hs]; · iexact Hs
  isplitl [Hp]; · iexact Hp
  isplitl [Hbufs]; · iexact Hbufs
  isplitl [Hss]
  · iapply (show (bigSep Finset.univ fun x : Kind × Fin 4 => semVal (chanCell c x.1 x.2) 0 : sProp 𝕄) ⊢ Pipeline.ownSems0 osem c from .rfl)
    iexact Hss
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What is owed at any point lies above the staging cell. -/
theorem above (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · unfold O₀ at h
    rw [Pi.add_apply, Finsupp.add_apply] at h
    rcases Nat.add_pos_iff_pos_or_pos.mp h with h | h
    · obtain ⟨k, rfl⟩ := due_pos c _ g i h
      exact ⟨by rw [L_tc]; exact Finset.mem_singleton_self _, by rw [lv_rv]; decide⟩
    · obtain ⟨rfl, -⟩ := Pipeline.tallyAt_pos h
      exact ⟨by rw [L_tc]; exact Finset.mem_singleton_self _, by rw [lv_bar]; decide⟩
  · exact absurd h (Nat.lt_irrefl 0)

/-- The output array after the region's one write-back. -/
theorem arr_after (c : Dev nD) : (pdats m 0 c).arrAt 0 (Pipeline.pin (pcfgs (F := F)) adm 0).N = V₂ m c main_v2 := by
  rw [V₂_out]
  exact (dat m c).arrAt_eq_of_after_last 0 t0_0 (by decide +kernel) _ fun j => rfl

set_option backward.isDefEq.respectTransparency.types false in
/-- The region. -/
def reg [∀ e, Nonempty (Elt F e)] : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    rest rest (Finset.Subset.refl _) kit rfl (fun c => (body m c).loose)
    (fun _ => 0) O₀ (fun c => (owed_zero m c).trans (zero_add _).symm) (owed_last m) (fun _ => rfl) (fun _ => fun | 0 => rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0)
    ⟨fun c w s => by rw [L_tc]; exact Finset.mem_singleton_self _, fun c => fun | 0 => fun s => Nat.le_of_eq rfl, fun c t g i h => above m c t g i h⟩
    (fun _ => iprop(emp))
    (fun _ => fun | 0 => rfl) (fun c => fun | 0 => arr_after m c)

theorem reg_pre [∀ e, Nonempty (Elt F e)] (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ Tk m c ∗ ∃ Wd, owes (c : Thread nD τ) (0 + O₀ c) Wd)
  rw [arr_eq, rest_eq, bufs_eq, zero_add]
  unfold R owesx
  iintro ⟨⟨Ha, Hx, Ho⟩, HT, Hp, HO⟩
  isplitl [Ho]; · iexact Ho
  isplitl [Hp]; · iexact Hp
  isplitl [Ha Hx]
  · isplitl [Ha Hx]; · isplitl [Ha] <;> iassumption
    iempintro
  isplitl [HT] <;> iassumption

theorem reg_post [∀ e, Nonempty (Elt F e)] (c : Dev nD) : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) rest (V₂ m c) ∗ emp) ∗ Yk c ∗ ∃ Wd, owes (c : Thread nD τ) (0 : CellTallies nD τ sig Unit) Wd) ⊢ _
  rw [arr_eq, rest_eq, bufs_eq]
  unfold Yk
  iintro ⟨Ho, -, ⟨⟨Ha, Hx⟩, -⟩, Hb, HO⟩
  isplitr [HO]
  · isplitr [Hb]
    · isplitl [Ha]; · iexact Ha
      isplitl [Hx] <;> iassumption
    iexact Hb
  iexact HO

/-- The reshape of the argument. -/
def host : Pipeline.HostSeg (Name := ℕ) (U := UU) (pcfgs (F := F)) defs₀ 𝒱₀ L lv :=
  Pipeline.HostSeg.ofOps _ _ _ _ _ bufs hostOps0
    (fun op h => by simp only [List.mem_singleton] at h; subst h; show ({Proc.devRef .tc main_arg0, Proc.devRef .tc main_v1} : Finset (DevRef τ sig)) ⊆ bufs; decide)
    (List.forall_iff_forall_mem.mp hostOps0_fresh) (V₀ m) (R m)

def segs [∀ e, Nonempty (Elt F e)] : List (Pipeline.Seg (pcfgs (F := F)) adm (pdats m) () defs₀ 𝒱₀ L lv) :=
  [.host (host m), .region (reg m)]

theorem main_eq [∀ e, Nonempty (Elt F e)] (c : Dev nD) : main (F := F) c = Pipeline.Seg.run (segs m) :=
  main_segs adm (pdats m) () 𝒱₀ L lv (host m) (reg m) rfl c

end Cert.ScatterProof

end
-- ==== Proof.Launch.lean ====
/-
  The launch and the run: every cell's invariant is allocated, each device is dealt what it starts from, and @main runs.
-/
module

public import proofs.«01_k».proof.Proof.Segments

@[expose] public section

set_option maxRecDepth 100000

noncomputable section

namespace Cert.ScatterProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens dealt -/

def barEmb : Dev nD ↪ GSem nD τ sig := ⟨barCell, fun _ _ h => congrArg (fun g : GSem nD τ sig => g.1.1) h⟩
def cellEmb : Dev nD × Key ↪ GSem nD τ sig :=
  ⟨fun p => cell p.1 p.2, fun _ _ h => Prod.ext (congrArg (fun g : GSem nD τ sig => g.1.1) h) (semOf_inj (congrArg Prod.snd h))⟩
/-- A device's DMA cells among its cells. -/
def dmaEmb : Dev nD × (Kind × Fin 4) ↪ GSem nD τ sig :=
  ⟨fun p => cell p.1 (some p.2), fun a b h => by
    have h' := cellEmb.injective (a₁ := (a.1, some a.2)) (a₂ := (b.1, some b.2)) h
    exact Prod.ext (congrArg (fun q : Dev nD × Key => q.1) h') (Option.some_injective _ (congrArg (fun q : Dev nD × Key => q.2) h'))⟩

/-- The barrier cells, live from the launch; the DMA cells, opened by the kernel; a token for each cell's duty. -/
abbrev barCells : Finset (GSem nD τ sig) := Finset.univ.map barEmb
abbrev dmaCells : Finset (GSem nD τ sig) := Finset.univ.map dmaEmb
def tokEmb : Dev nD × Key ↪ GSem nD τ sig × ℕ × Unit :=
  ⟨fun p => (cell p.1 p.2, 0, ()), fun _ _ h => cellEmb.injective (congrArg Prod.fst h)⟩
abbrev allToks : Finset (GSem nD τ sig × ℕ × Unit) := Finset.univ.map tokEmb

theorem disjoint_cells : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact absurd (semOf_inj (a₁ := some p.2) (a₂ := none) (congrArg Prod.snd h)) (Option.some_ne_none _)

theorem cells_eq : (barCells ∪ dmaCells : Finset (GSem nD τ sig)) = Finset.univ.map cellEmb := by
  ext g
  simp only [Finset.mem_union, Finset.mem_map, Finset.mem_univ, true_and]
  constructor
  · rintro (⟨c, rfl⟩ | ⟨p, rfl⟩)
    · exact ⟨(c, none), rfl⟩
    · exact ⟨(p.1, some p.2), rfl⟩
  · rintro ⟨⟨c, _ | x⟩, rfl⟩
    · exact .inl ⟨c, rfl⟩
    · exact .inr ⟨(c, x), rfl⟩

/-- The launch element: the pipeline library's and the protocol's. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- The protocol's launch element, in device 0's keeping until the cells are funded. -/
def G (c : Dev nD) : sProp 𝕄 := if c = 0 then BI.own (ER (launchOf barCells dmaCells allToks)) else iprop(emp)
theorem G_eq : bigSep Finset.univ (G (F := F)) = BI.own (ER (launchOf barCells dmaCells allToks)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## Tokens -/

/-- A family over a device's cells, its barrier first. -/
theorem bigSep_keys (Φ : Key → sProp 𝕄) : bigSep Finset.univ Φ = iprop(Φ none ∗ bigSep Finset.univ fun x => Φ (some x)) := by
  rw [bigSep_univ_at _ (none : Key), show (Finset.univ : Finset Key).erase none = Finset.univ.map Function.Embedding.some from by decide,
    bigSep_map]
  rfl

/-- Each token dealt to the device that pays the duty. -/
theorem toks_dealt : bigSep allToks (fun x => (dutyTok ER x.1 x.2.1 x.2.2 : sProp 𝕄))
    = iprop((bigSep Finset.univ fun c : Dev nD => dutyTok ER (barCell (peer c)) 0 ()) ∗ bigSep Finset.univ fun c : Dev nD => bigSep Finset.univ fun x => payTok c x) := by
  have e (c : Dev nD) : (bigSep Finset.univ fun x => (payTok c x : sProp 𝕄)) = _ := bigSep_kinds (fun x => payTok c x)
  have e' (c : Dev nD) : (bigSep Finset.univ fun x : Kind × Fin 4 => (dutyTok ER (cell c (some x)) 0 () : sProp 𝕄)) = _ :=
    bigSep_kinds (fun x => dutyTok ER (cell c (some x)) 0 ())
  rw [bigSep_map, bigSep_univ_prod]
  show (bigSep Finset.univ fun c : Dev nD => bigSep Finset.univ fun x : Key => (dutyTok ER (cell c x) 0 () : sProp 𝕄)) = _
  rw [bigSep_congr (s := Finset.univ) fun c (_ : c ∈ Finset.univ) =>
    (bigSep_keys fun x => (dutyTok ER (cell c x) 0 () : sProp 𝕄)).trans (congrArg (fun P => iprop(dutyTok ER (cell c none) 0 () ∗ P)) (e' c)),
    bigSep_congr (s := Finset.univ) (Φ := fun c : Dev nD => bigSep Finset.univ fun x => (payTok c x : sProp 𝕄)) fun c _ => e c]
  simp only [bigSep_sep']
  rw [bigSep_univ_equiv swap (fun c : Dev nD => (dutyTok ER (cell c none) 0 () : sProp 𝕄)),
    bigSep_univ_equiv swap (fun c : Dev nD => (bigSep Finset.univ fun k : Fin 4 => dutyTok ER (cell c (some (.rv, k))) 0 () : sProp 𝕄))]
  rfl

/-! ## Credit -/

/-- The credit for a list of chunks. -/
def rvCredits (c : Dev nD) : List (Fin 4) → sProp 𝕄
  | [] => iprop(emp)
  | k :: ks => iprop(rvCredits c ks ∗ cred (tallyAt (chanCell c .rv k) () (Kind.amt .rv)))

theorem credit_due (c : Dev nD) (ks : List (Fin 4)) : (Pipeline.launchCred (fun d => due d ks) c : sProp 𝕄) ⊢ rvCredits c ks := by
  induction ks with
  | nil => exact Entails.of_eq (Pipeline.launchCred_zero c)
  | cons k ks ih =>
    refine (Entails.of_eq (Pipeline.launchCred_add (fun d => due d ks) (fun d => tallyAt (chanCell (peer d) .rv k) () N16) c)).trans ?_
    exact BI.sep_mono ih (Pipeline.launchCred_tallyAt (.dma (chan .rv k)) peer peer peer_peer peer_peer () N16 c)

theorem credits_intro (c : Dev nD) : (Pipeline.launchCred O₀ c : sProp 𝕄) ⊢ credits c := by
  have h : (Pipeline.launchCred O₀ c : sProp 𝕄) ⊢ iprop(rvCredits c [0, 1, 2, 3] ∗ cred (tallyAt (barCell c) () 1)) :=
    (Entails.of_eq (Pipeline.launchCred_add (fun d => due d [0, 1, 2, 3]) (fun d => tallyAt (barCell (peer d)) () 1) c)).trans
      (BI.sep_mono (credit_due c _) (Pipeline.launchCred_tallyAt (.reg barS) peer peer peer_peer peer_peer () 1 c))
  unfold credits
  rw [bigSep_chunks]
  iintro H
  ihave H := h $$ H
  unfold rvCredits rvCredits rvCredits rvCredits rvCredits
  icases H with ⟨⟨⟨⟨⟨-, H3⟩, H2⟩, H1⟩, H0⟩, Hb⟩
  isplitl [Hb]; · iexact Hb
  isplitl [H0]; · iexact H0
  isplitl [H1]; · iexact H1
  isplitl [H2] <;> iassumption

/-! ## What each device starts from -/

/-- What every device may consult: all the invariants, and that each barrier cell is at round 0. -/
def records (κ : GSem nD τ sig → ℕ) : sProp 𝕄 := iprop(invs (inOf m) κ ∗ bigSep Finset.univ fun c : Dev nD => reached ER (barCell c) 0)
instance records_persistent (κ : GSem nD τ sig → ℕ) : BI.Persistent (records m κ) := by unfold records; infer_instance

/-- What of the ghost state is one device's alone. -/
def mine (c : Dev nD) : sProp 𝕄 :=
  iprop(atPos ER (barCell c) 0 ∅ 0 ∗ (bigSep Finset.univ fun x : Kind × Fin 4 => openTok ER (chanCell c x.1 x.2))
    ∗ dutyTok ER (barCell (peer c)) 0 () ∗ bigSep Finset.univ fun x => payTok c x)

/-- A device's launch holdings besides. -/
def holdings (c : Dev nD) : sProp 𝕄 :=
  iprop(StableHlo.held (c : Thread nD τ) bufs (V₀ m c) ∗ credits c ∗ (∃ r, prngReg c r) ∗ owesx c (O₀ c))

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barCell c) 0)

theorem start (κ : GSem nD τ sig → ℕ) (c : Dev nD) : iprop(records m κ ∗ (mine c ∗ holdings m c)) ⊢ T₀ m c := by
  unfold records mine holdings T₀ R Tk ghost
  iintro ⟨⟨#HI, #Hr⟩, ⟨Ha, Ho, Ht, Hts⟩, Hh, Hc, Hp, HO⟩
  isplitl [Hh]; · iexact Hh
  isplitr [Hp HO]
  · isplitr [Hc]
    · iexists κ
      isplitr; · iexact HI
      isplitr
      · iapply (show (bigSep Finset.univ fun c : Dev nD => (reached ER (barCell c) 0 : sProp 𝕄)) ⊢ reached ER (barCell (peer c)) 0
          from bigSep_elim (i := peer c) (Finset.mem_univ _))
        iexact Hr
      isplitl [Ha]; · iexact Ha
      isplitl [Ho]; · iexact Ho
      isplitl [Ht] <;> iassumption
    · iexact Hc
  isplitl [Hp] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(holdings m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      show (unscopedSems0 c : sProp 𝕄) = semVal (barCell c) 0 from by
        unfold unscopedSems0
        rw [show (Finset.univ.filter fun sm : SemLoc sig => ¬ sm.isScoped .tc) = {SemLoc.reg barS} from by decide, BI.bigSep_singleton]]
    unfold holdings owesx
    iintro ⟨Hh, Hs, HO, Hc, Hp, HG⟩
    isplitr [Hs HG]
    · isplitl [Hh]; · iexact Hh
      isplitl [Hc]; · iapply (credits_intro c); iexact Hc
      isplitl [Hp]; · iexists _; iexact Hp
      iexists _; iexact HO
    isplitl [Hs] <;> iassumption
  iintro ⟨H, -⟩
  ihave H := (show _ ⊢ (bigSep Finset.univ fun c : Dev nD => iprop(holdings m c ∗ (semVal (barCell c) 0 ∗ G c)) : sProp 𝕄)
    from bigSep_mono fun c _ => hcore c) $$ H
  ihave H := (Entails.of_eq ((bigSep_sep' Finset.univ (holdings m) (fun c => iprop(semVal (barCell c) 0 ∗ G c))).trans
    (congrArg (fun P => iprop(bigSep Finset.univ (holdings m) ∗ P)) (bigSep_sep' Finset.univ (fun c => (semVal (barCell c) 0 : sProp 𝕄)) G)))) $$ H
  icases H with ⟨HH, Hv, HG⟩
  imod (Rounds.fund_launch ER (sched (inOf m)) disjoint_cells (fun g _ h => h) allToks) $$ [Hv HG] with ⟨%κ, -, #Hinv, #Hr, Hat, Hopen, Htok⟩
  · isplitl [Hv]
    · iapply (Entails.of_eq (bigSep_map (s := Finset.univ) barEmb (Φ := fun g : GSem nD τ sig => (semVal g 0 : sProp 𝕄))).symm); iexact Hv
    · iapply (Entails.of_eq (G_eq (F := F))); iexact HG
  imodintro
  iapply (bigSep_with_persistent (R := records m κ) (Φ := fun c => iprop(mine c ∗ holdings m c)) fun c _ => start m κ c)
  isplitr
  · unfold records invs
    isplitr
    · iapply (Entails.of_eq ((congrArg (fun S => bigSep S fun g => (cellInv ER (sched (inOf m)) (κ g) g : sProp 𝕄)) cells_eq).trans
        (bigSep_map (s := Finset.univ) cellEmb (Φ := fun g : GSem nD τ sig => (cellInv ER (sched (inOf m)) (κ g) g : sProp 𝕄))))); iexact Hinv
    · iapply (Entails.of_eq (bigSep_map (s := Finset.univ) barEmb (Φ := fun g : GSem nD τ sig => (reached ER g 0 : sProp 𝕄)))); iexact Hr
  ihave Ht := (Entails.of_eq (toks_dealt (F := F))) $$ Htok
  icases Ht with ⟨Htb, Htx⟩
  unfold mine
  simp only [bigSep_sep']
  isplitr [HH]
  · isplitl [Hat]
    · iapply (Entails.of_eq (bigSep_map (s := Finset.univ) barEmb (Φ := fun g : GSem nD τ sig => (atPos ER g 0 ∅ 0 : sProp 𝕄)))); iexact Hat
    isplitl [Hopen]
    · iapply (Entails.of_eq ((bigSep_map (s := Finset.univ) dmaEmb (Φ := fun g : GSem nD τ sig => (openTok ER g : sProp 𝕄))).trans (bigSep_univ_prod _)))
      iexact Hopen
    isplitl [Htb] <;> iassumption
  iexact HH

/-! ## The run -/

theorem unscoped_eq : ∀ sm : SemLoc sig, sm.isScoped .tc = false → sm = .reg barS := by decide

theorem V₁_arg (c : Dev nD) : V₁ m c main_arg0 = m ((c : Thread nD τ).loc main_arg0) := V_main_arg0 m c

set_option backward.isDefEq.respectTransparency.types false in
/-- Every run of @main ends with the argument as launched, the result `outOf` of the devices' reshaped arguments, and every
    counter at zero. -/
theorem run_main [∀ e, Nonempty (Elt F e)] : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = outOf (inOf m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      rw [G_eq]
      iintro Hu
      ihave H := (ownU_pair _ _) $$ Hu
      icases H with ⟨HP, HX⟩
      imodintro
      isplitl [HP]; · iexact HP
      iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_v2) = V₂ m c main_v2)
      ∧ s.sem (barCell c) = 0)
    (hfin := fun c s' => by
      dsimp only [Tₙ]; rw [bufs_eq]
      iintro ⟨⟨⟨Ha, -, Ho⟩, Hb⟩, HSI⟩
      icombine HSI Ha gives %ha
      icombine HSI Ho gives %ho
      icombine HSI Hb gives %hb
      imodintro
      isplitr
      · ipureintro
        exact ⟨⟨Buf.eq_of_forall_mem_univ ha, Buf.eq_of_forall_mem_univ ho⟩, by simpa using hb⟩
      iexact HSI)
    (hQ := fun s h hs => ⟨fun c => by
        obtain ⟨⟨ha, ho⟩, -⟩ := h c
        rw [V₂_arg, V₁_arg] at ha; rw [V₂_out] at ho
        exact ⟨ha, ho⟩,
      sem_eq_zero hs fun c sm hsm => by
        obtain rfl := unscoped_eq sm hsm
        exact (h c).2⟩)

end Cert.ScatterProof

end
-- ==== Proof.Value.lean ====
/-
  The values over the extended reals: what the kernel leaves on a device is that device's block of the sum over the two
  slices, which is what the reference computes.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.ValueLayout
public import Idealize.ShloMosaic.Lib.Pointwise.Reduce

@[expose] public section

set_option maxRecDepth 100000

noncomputable section

namespace Cert.ScatterProof

open Cert.KernelIdeal Cert.KernelIdeal.Gen
open Idealize.ShloMosaic Idealize.ShloMosaic.TcCoe Idealize.SL.Sem

/-- An array of the problem's argument shape, two slices, over the extended reals. -/
abbrev Whole : Type := Cert.ReferenceIdeal.S2x512x1024.Idx → EReal

/-- The reference's result from its argument. -/
def refOut (w : Whole) : Cert.ReferenceIdeal.S512x1024.Idx → EReal :=
  truncf (F := Ideal) .bf16 (Host.reduceAdd (extf (F := Ideal) .f32 (truncf (F := Ideal) .bf16 (w : FVec Ideal _ .f32)
    Cert.ReferenceIdeal.Gen.bitsLt_bf16_f32) Cert.ReferenceIdeal.Gen.bitsLt_bf16_f32) (constant Cert.ReferenceIdeal.S_ .f32 0x00000000#32)
    Cert.ReferenceIdeal.Gen.reducesTo_S2x512x1024_S512x1024_d0 Cert.ReferenceIdeal.Gen.h_S_) Cert.ReferenceIdeal.Gen.bitsLt_bf16_f32

/-- It is the sum of the two slices. -/
theorem refOut_apply (w : Whole) (r : Fin 512) (l : Fin 1024) :
    refOut w (ix2 r l) = w (ix3 (0 : Fin 2) r l) + w (ix3 (1 : Fin 2) r l) := by
  show Ideal.hostReduceAdd Cert.ReferenceIdeal.Gen.reducesTo_S2x512x1024_S512x1024_d0 w (Ideal.ofBits .f32 0x00000000#32) (ix2 r l) = _
  rw [Ideal.hostReduceAdd_r3_a0, Ideal.ofBits_zero_f32, zero_add, Fin.sum_univ_two]
  rfl

/-- A device's block of the argument: the slice numbered by its coordinate on the first mesh axis. -/
theorem arg_block (c : Dev nD) (w : Whole) (r : Fin 512) (l : Fin 1024) :
    Layout.blockN ⟨3, ![1, 512, 1024]⟩ ⟨3, ![2, 512, 1024]⟩ (Layout.meshBlock [2, 4, 4] ![[0], [], []] c) w (by decide) (ix3 (0 : Fin 1) r l)
      = w (ix3 (own c) r l) := by
  refine congrArg w (funext fun a => Fin.ext ?_)
  rw [Layout.TilesN.idx_val]
  have h0 : Layout.meshLin [2, 4, 4] c.val [0] = c.val / 16 := by revert c; decide
  fin_cases a
  · show Layout.meshLin [2, 4, 4] c.val [0] * 1 + 0 = c.val / 16; omega
  · show 0 * 512 + r.val = r.val; omega
  · show 0 * 1024 + l.val = l.val; omega

/-- A device's block of the result: the column half numbered the same way. -/
theorem out_block (c : Dev nD) (v : Cert.ReferenceIdeal.S512x1024.Idx → EReal) (r l : Fin 512) :
    Layout.blockN ⟨2, ![512, 512]⟩ ⟨2, ![512, 1024]⟩ (Layout.meshBlock [2, 4, 4] ![[], [0]] c) v (by decide) (ix2 r l)
      = v (ix2 r ⟨512 * (own c).val + l.val, by have := (own c).isLt; omega⟩) := by
  refine congrArg v (funext fun a => Fin.ext ?_)
  rw [Layout.TilesN.idx_val]
  have h0 : Layout.meshLin [2, 4, 4] c.val [0] = c.val / 16 := by revert c; decide
  fin_cases a
  · show 0 * 512 + r.val = r.val; omega
  · show Layout.meshLin [2, 4, 4] c.val [0] * 512 + l.val = 512 * (c.val / 16) + l.val; omega

variable (m : (ℓ : Loc nD τ sig) → Buf (Elt Ideal) ℓ)

/-- What the kernel reads on a device: its argument without the leading axis. -/
theorem inOf_apply (c : Dev nD) (r : Fin 512) (l : Fin 1024) :
    inOf m c (ix2 r l) = m ((c : Thread nD τ).loc main_arg0) (ix3 (0 : Fin 1) r l) := by
  have h : inOf m c = shapeCast S512x1024 (m ((c : Thread nD τ).loc main_arg0)) shapeCasts_S1x512x1024_S512x1024 := by
    show StableHlo.after hostOps0 (V₀ m c) main_v1 = _
    unfold hostOps0
    after_results
    rfl
  rw [h]
  exact ValueIdx.shapeCast_1ab_ab_apply _ _ r l

/-- The kernel's result on a device, element by element. -/
theorem outOf_apply (X : Dev nD → S512x1024.Idx → EReal) (c : Dev nD) (r l : Fin 512) :
    outOf (F := Ideal) X c (ix2 r l) = X c (ix2 r ⟨512 * (own c).val + l.val, by have := (own c).isLt; omega⟩)
      + X (peer c) (ix2 r ⟨512 * (own c).val + l.val, by have := (own c).isLt; omega⟩) := by
  have e : (halfR (own c)).emb (ix2 r l) = ix2 r ⟨512 * (own c).val + l.val, by have := (own c).isLt; omega⟩ := by
    refine funext fun a => Fin.ext ?_
    fin_cases a
    · show 0 + 1 * r.val = r.val; omega
    · show 512 * (own c).val + 1 * l.val = 512 * (own c).val + l.val; omega
  show X c ((halfR (own c)).emb (ix2 r l)) + X (peer c) ((halfR (own c)).emb (ix2 r l)) = _
  rw [e]

/-- If every device's argument is its block of `w`, every device's result is its block of the reference's. -/
theorem outOf_eq (w : Whole)
    (hw : ∀ c : Dev nD, m ((c : Thread nD τ).loc main_arg0)
      = Layout.blockN ⟨3, ![1, 512, 1024]⟩ ⟨3, ![2, 512, 1024]⟩ (Layout.meshBlock [2, 4, 4] ![[0], [], []] c) w (by decide)) (c : Dev nD) :
    outOf (inOf m) c = Layout.blockN ⟨2, ![512, 512]⟩ ⟨2, ![512, 1024]⟩ (Layout.meshBlock [2, 4, 4] ![[], [0]] c) (refOut w) (by decide) := by
  have hin (d : Dev nD) (r : Fin 512) (l : Fin 1024) : inOf m d (ix2 r l) = w (ix3 (own d) r l) := by
    rw [inOf_apply, hw]; exact arg_block d w r l
  refine funext fun i => ?_
  obtain ⟨r, l, rfl⟩ : ∃ r l : Fin 512, i = ix2 r l := ⟨i 0, i 1, eq_ix2 i⟩
  refine (outOf_apply (inOf m) c r l).trans (Eq.trans ?_ (out_block c (refOut w) r l).symm)
  rw [refOut_apply, hin, hin]
  generalize (⟨512 * (own c).val + l.val, _⟩ : Fin 1024) = l'
  have hp : own c = 0 ∧ own (peer c) = 1 ∨ own c = 1 ∧ own (peer c) = 0 := by revert c; decide
  rcases hp with ⟨h, h'⟩ | ⟨h, h'⟩
  · rw [h, h']
  · rw [h, h', add_comm]

end Cert.ScatterProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

set_option maxRecDepth 100000

noncomputable section

namespace Cert.Proof

open Idealize.ShloMosaic Idealize.SL.Sem Cert.ScatterProof

/-- The program and its idealization have the same kernel bodies, -/
theorem body_eq {F : FTy → Type} [FloatOps F] : Cert.Kernel.defs₀ (F := F) = Cert.KernelIdeal.defs₀ := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- so the same table of bodies. -/
theorem defs_eq {F : FTy → Type} [FloatOps F] : Cert.Kernel.defs (F := F) = Cert.KernelIdeal.defs := by
  unfold Cert.Kernel.defs Cert.KernelIdeal.defs
  rw [body_eq]
  rfl

/-- The kernel over machine floats terminates and leaves its argument and every counter as they were: the program's text is
    the idealized one's, so the run is the same theorem. -/
theorem frame_kernel : Cert.quiescent_Kernel := fun m ρ _ => by
  rw [defs_eq]
  exact (θ_run Cert.KernelIdeal.defs _ _).mono (fun _ h => ⟨fun c => (h.1 c).1, h.2⟩) (run_main (F := Bits) m ρ)

/-- The same over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference terminates and leaves its argument as it was; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the kernel leaves its block of the reference's sum. -/
theorem algebraic : Cert.algebraic_KernelIdeal_ReferenceIdeal := fun m ρ m' ρ' _ hm =>
  ⟨refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).2.trans (outOf_eq m _ hm c), (h.1 c).1⟩) (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
